-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x4096x1024 : Shape := ⟨3, ![4, 4096, 1024]⟩
abbrev S4 : Shape := ⟨1, ![4]⟩
abbrev S4x1024 : Shape := ⟨2, ![4, 1024]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S4x4096x1024 .f32) (main_arg1 : IVec S4 32) (main_arg2 : FVec F S4x1024 .f32) (main_arg3 : FVec F S4x1024 .f32) : IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 4#32
  let main_v2 : IVec S4 32 := broadcastInDim S4 ![] bcast_S_S4 main_c_0
  let main_v3 : IVec S4 1 := cmpi .slt main_arg1 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  main_v5
-- ==== Kernel.lean ====
abbrev S4x4096x1024 : Shape := ⟨3, ![4, 4096, 1024]⟩
abbrev S4 : Shape := ⟨1, ![4]⟩
abbrev S4x1024 : Shape := ⟨2, ![4, 1024]⟩
abbrev S_ : Shape := ⟨0, ![]⟩
abbrev S1 : Shape := ⟨1, ![1]⟩
abbrev S1x1024 : Shape := ⟨2, ![1, 1024]⟩
abbrev S1024 : Shape := ⟨1, ![1024]⟩
abbrev S8x512x1024 : Shape := ⟨3, ![8, 512, 1024]⟩
abbrev S8 : Shape := ⟨1, ![8]⟩
abbrev S1x512x1024 : Shape := ⟨3, ![1, 512, 1024]⟩
abbrev S512x1024 : Shape := ⟨2, ![512, 1024]⟩
abbrev S4x1 : Shape := ⟨2, ![4, 1]⟩

abbrev nBuf : Table → Nat
  | .hbm => 8
  | .local .tc .vmem => 6
  | .local .tc .smem => 1
  | .local .scScalar .smem => 1
  | _ => 0

abbrev bufTy : (tb : Table) → Fin (nBuf tb) → BufTy
  | .hbm, ⟨0, _⟩ => ⟨S4x4096x1024, .f32⟩
  | .hbm, ⟨1, _⟩ => ⟨S4, .i32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x4096x1024, .f32⟩
  | .hbm, ⟨7, _⟩ => ⟨S4x4096x1024, .f32⟩
  | .local .tc .vmem, ⟨0, _⟩ => ⟨S4x1024, .f32⟩
  | .local .tc .vmem, ⟨1, _⟩ => ⟨S4x1024, .f32⟩
  | .local .tc .vmem, ⟨2, _⟩ => ⟨S8x512x1024, .f32⟩
  | .local .tc .vmem, ⟨3, _⟩ => ⟨S4x1024, .f32⟩
  | .local .tc .vmem, ⟨4, _⟩ => ⟨S4x1024, .f32⟩
  | .local .tc .vmem, ⟨5, _⟩ => ⟨S8x512x1024, .f32⟩
  | .local .tc .smem, ⟨0, _⟩ => ⟨S4, .i32⟩
  | .local .scScalar .smem, ⟨0, _⟩ => ⟨S4, .i32⟩
  | _, _ => ⟨S4x4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_arg1_scs : Ref sig .scScalar := ⟨.hbm, 1, rfl⟩
abbrev main_arg2_scs : Ref sig .scScalar := ⟨.hbm, 2, rfl⟩
abbrev main_arg3_scs : Ref sig .scScalar := ⟨.hbm, 3, rfl⟩
abbrev main_v0_0_scs : Ref sig .scScalar := ⟨.hbm, 4, rfl⟩
abbrev main_v0_1_scs : Ref sig .scScalar := ⟨.hbm, 5, rfl⟩
abbrev cc1_stg1_0 : Ref sig .tc := ⟨.vmem, 0, rfl⟩
abbrev cc1_stg2_0 : Ref sig .tc := ⟨.vmem, 1, rfl⟩
abbrev cc1_scratch0 : Ref sig .tc := ⟨.vmem, 2, rfl⟩
abbrev cc2_stg0_0 : Ref sig .tc := ⟨.vmem, 3, rfl⟩
abbrev cc2_stg1_0 : Ref sig .tc := ⟨.vmem, 4, rfl⟩
abbrev cc2_scratch0 : Ref sig .tc := ⟨.vmem, 5, rfl⟩
abbrev cc1_stg0_0 : Ref sig .tc := ⟨.smem, 0, rfl⟩
abbrev cc0_scratch0 : Ref sig .scScalar := ⟨.smem, 0, rfl⟩
abbrev cc1_sem0_0 : DmaSem sig := 3
abbrev cc1_sem1_0 : DmaSem sig := 4
abbrev cc1_sem2_0 : DmaSem sig := 5
abbrev cc2_sem0_0 : DmaSem sig := 22
abbrev cc2_sem1_0 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v4 : BitVec 32) : Fin 2 → Nat :=
  let c0_i32_4 : BitVec 32 := 0#32
  ![v4.toNat, 0]

def k0_off2 (v14 : BitVec 32) : Fin 2 → Nat :=
  let c0_i32_10 : BitVec 32 := 0#32
  ![v14.toNat, 0]

def k0_off3 (v24 : BitVec 32) : Fin 2 → Nat :=
  let c0_i32_16 : BitVec 32 := 0#32
  ![v24.toNat, 0]

def k0_off4 (v34 : BitVec 32) : Fin 2 → Nat :=
  let c0_i32_22 : BitVec 32 := 0#32
  ![v34.toNat, 0]

def k0_chk4 (i : grid0.Coords) (v34 : BitVec 32) : Prop :=
  (∀ (k0_h1 : k0_cond1 i = 1#1), ∀ a, (k0_off4 v34) a + S1x1024.size a ≤ S4x1024.size a)
theorem k0_off4_inb : ∀ (i : grid0.Coords) (v34 : BitVec 32) (k0_hw4 : k0_chk4 i v34), ∀ (k0_h1 : k0_cond1 i = 1#1), ∀ a, (k0_off4 v34) a + S1x1024.size a ≤ S4x1024.size a := fun i v34 k0_hw4 k0_h1 => k0_hw4 k0_h1

def k0_off5 (v4 : BitVec 32) : Fin 2 → Nat :=
  let c0_i32_28 : BitVec 32 := 0#32
  ![v4.toNat, 0]

def k0_chk1 (i : grid0.Coords) (v4 : BitVec 32) : Prop :=
  (∀ (k0_h1 : k0_cond1 i = 1#1), ∀ a, (k0_off1 v4) a + S1x1024.size a ≤ S4x1024.size a) ∧
  (∀ (k0_h1 : k0_cond1 i = 1#1), ∀ a, (k0_off5 v4) a + S1x1024.size a ≤ S4x1024.size a)
theorem k0_off1_inb : ∀ (i : grid0.Coords) (v4 : BitVec 32) (k0_hw1 : k0_chk1 i v4), ∀ (k0_h1 : k0_cond1 i = 1#1), ∀ a, (k0_off1 v4) a + S1x1024.size a ≤ S4x1024.size a := fun i v4 k0_hw1 k0_h1 => k0_hw1.1 k0_h1
theorem k0_off5_inb : ∀ (i : grid0.Coords) (v4 : BitVec 32) (k0_hw1 : k0_chk1 i v4), ∀ (k0_h1 : k0_cond1 i = 1#1), ∀ a, (k0_off5 v4) a + S1x1024.size a ≤ S4x1024.size a := fun i v4 k0_hw1 k0_h1 => k0_hw1.2 k0_h1

def k0_off6 (v14 : BitVec 32) : Fin 2 → Nat :=
  let c0_i32_34 : BitVec 32 := 0#32
  ![v14.toNat, 0]

def k0_chk2 (i : grid0.Coords) (v14 : BitVec 32) : Prop :=
  (∀ (k0_h1 : k0_cond1 i = 1#1), ∀ a, (k0_off2 v14) a + S1x1024.size a ≤ S4x1024.size a) ∧
  (∀ (k0_h1 : k0_cond1 i = 1#1), ∀ a, (k0_off6 v14) a + S1x1024.size a ≤ S4x1024.size a)
theorem k0_off2_inb : ∀ (i : grid0.Coords) (v14 : BitVec 32) (k0_hw2 : k0_chk2 i v14), ∀ (k0_h1 : k0_cond1 i = 1#1), ∀ a, (k0_off2 v14) a + S1x1024.size a ≤ S4x1024.size a := fun i v14 k0_hw2 k0_h1 => k0_hw2.1 k0_h1
theorem k0_off6_inb : ∀ (i : grid0.Coords) (v14 : BitVec 32) (k0_hw2 : k0_chk2 i v14), ∀ (k0_h1 : k0_cond1 i = 1#1), ∀ a, (k0_off6 v14) a + S1x1024.size a ≤ S4x1024.size a := fun i v14 k0_hw2 k0_h1 => k0_hw2.2 k0_h1

def k0_off7 (v24 : BitVec 32) : Fin 2 → Nat :=
  let c0_i32_40 : BitVec 32 := 0#32
  ![v24.toNat, 0]

def k0_chk3 (i : grid0.Coords) (v24 : BitVec 32) : Prop :=
  (∀ (k0_h1 : k0_cond1 i = 1#1), ∀ a, (k0_off3 v24) a + S1x1024.size a ≤ S4x1024.size a) ∧
  (∀ (k0_h1 : k0_cond1 i = 1#1), ∀ a, (k0_off7 v24) a + S1x1024.size a ≤ S4x1024.size a)
theorem k0_off3_inb : ∀ (i : grid0.Coords) (v24 : BitVec 32) (k0_hw3 : k0_chk3 i v24), ∀ (k0_h1 : k0_cond1 i = 1#1), ∀ a, (k0_off3 v24) a + S1x1024.size a ≤ S4x1024.size a := fun i v24 k0_hw3 k0_h1 => k0_hw3.1 k0_h1
theorem k0_off7_inb : ∀ (i : grid0.Coords) (v24 : BitVec 32) (k0_hw3 : k0_chk3 i v24), ∀ (k0_h1 : k0_cond1 i = 1#1), ∀ a, (k0_off7 v24) a + S1x1024.size a ≤ S4x1024.size a := fun i v24 k0_hw3 k0_h1 => k0_hw3.2 k0_h1

abbrev grid1 : Pipeline.Grid := .none

abbrev stage1_0 : Fin 1 → Memref sig .tc .smem S4 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

abbrev stage2_0 : Fin 1 → Memref sig .tc .vmem S4x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S4x4096x1024 : Shape := ⟨3, ![4, 4096, 1024]⟩
abbrev S4 : Shape := ⟨1, ![4]⟩
abbrev S4x1024 : Shape := ⟨2, ![4, 1024]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x1x1024 : Shape := ⟨3, ![4, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4, .i32⟩
  | .hbm, ⟨2, _⟩ => ⟨S4x1024, .f32⟩
  | .hbm, ⟨3, _⟩ => ⟨S4x1024, .f32⟩
  | .hbm, ⟨4, _⟩ => ⟨S_, .i32⟩
  | .hbm, ⟨5, _⟩ => ⟨S4, .i32⟩
  | .hbm, ⟨6, _⟩ => ⟨S4, .i1⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S1, .i32⟩
  | .hbm, ⟨13, _⟩ => ⟨S_, .i32⟩
  | .hbm, ⟨14, _⟩ => ⟨S4x1, .i32⟩
  | .hbm, ⟨15, _⟩ => ⟨S4x1, .i1⟩
  | .hbm, ⟨16, _⟩ => ⟨S1x1, .i32⟩
  | .hbm, ⟨17, _⟩ => ⟨S4x1, .i32⟩
  | .hbm, ⟨18, _⟩ => ⟨S4x1, .i1⟩
  | .hbm, ⟨19, _⟩ => ⟨S4x1, .i1⟩
  | .hbm, ⟨20, _⟩ => ⟨S_, .i1⟩
  | .hbm, ⟨21, _⟩ => ⟨S4, .i1⟩
  | .hbm, ⟨22, _⟩ => ⟨S4x1024, .f32⟩
  | .hbm, ⟨23, _⟩ => ⟨S4x1024, .i1⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1x1024, .f32⟩
  | .hbm, ⟨28, _⟩ => ⟨S_, .i32⟩
  | .hbm, ⟨29, _⟩ => ⟨S4, .i32⟩
  | .hbm, ⟨30, _⟩ => ⟨S4, .i1⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S4x1, .i32⟩
  | .hbm, ⟨36, _⟩ => ⟨S1, .i32⟩
  | .hbm, ⟨37, _⟩ => ⟨S_, .i32⟩
  | .hbm, ⟨38, _⟩ => ⟨S4x1, .i32⟩
  | .hbm, ⟨39, _⟩ => ⟨S4x1, .i1⟩
  | .hbm, ⟨40, _⟩ => ⟨S1x1, .i32⟩
  | .hbm, ⟨41, _⟩ => ⟨S4x1, .i32⟩
  | .hbm, ⟨42, _⟩ => ⟨S4x1, .i1⟩
  | .hbm, ⟨43, _⟩ => ⟨S4x1, .i1⟩
  | .hbm, ⟨44, _⟩ => ⟨S_, .i1⟩
  | .hbm, ⟨45, _⟩ => ⟨S4, .i1⟩
  | .hbm, ⟨46, _⟩ => ⟨S4x1024, .f32⟩
  | .hbm, ⟨47, _⟩ => ⟨S4x1024, .i1⟩
  | .hbm, ⟨48, _⟩ => ⟨S_, .f32⟩
  | .hbm, ⟨49, _⟩ => ⟨S4x1024, .f32⟩
  | .hbm, ⟨50, _⟩ => ⟨S4x1024, .f32⟩
  | .hbm, ⟨51, _⟩ => ⟨S4x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩

abbrev nD : Nat := 1
abbrev τ : Topo := Topo.v7x

variable {F : FTy → Type} [FloatOps F]
-- ==== Proof.Segs.lean ====
/-
  The two dense kernels as short programs over named pieces. Each of them moves the rows of `x` through a ring of eight
  slots, a chunk of 512 rows at a time: fetch a chunk into a slot, scale and shift it in place, send it to the result,
  and wait for the send before the slot is used again. Here every such piece is a small program over a chunk number and
  a slot number, and the printed bodies are shown to be the sequences of these pieces.
-/
module

public import proofs.«01_k».proof.Proof.Gen.KernelIdeal.Skeleton

@[expose] public section

noncomputable section

namespace Cert.Proof.Film

open Cert.KernelIdeal Cert.KernelIdeal.Gen
open Idealize.ShloMosaic Idealize.SL.Sem

variable {F : FTy → Type} [FloatOps F]

/-! ## Chunks and slots -/

/-- Where chunk `j` begins in `x` and in the result: batch `j / 8`, row `512 * (j % 8)`. -/
abbrev chOff (j : Fin 32) : Fin 3 → ℕ := ![j.val / 8, 512 * (j.val % 8), 0]
/-- Where slot `s` begins in the ring. -/
abbrev slOff (s : Fin 8) : Fin 3 → ℕ := ![s.val, 0, 0]
/-- Where slot `s`'s semaphore begins in an array of eight. -/
abbrev smOff (s : Fin 8) : Fin 1 → ℕ := ![s.val]
/-- Where batch `b`'s word begins in the ids. -/
abbrev idOff (b : Fin 4) : Fin 1 → ℕ := ![b.val]
/-- Where row `b` begins in a table of four rows. -/
abbrev rwOff (b : Fin 4) : Fin 2 → ℕ := ![b.val, 0]

theorem chOff_inb (j : Fin 32) : ∀ a, chOff j a + S1x512x1024.size a ≤ S4x4096x1024.size a := by
  revert j; decide
theorem slOff_inb (s : Fin 8) : ∀ a, slOff s a + S1x512x1024.size a ≤ S8x512x1024.size a := by
  revert s; decide
theorem smOff_inb (s : Fin 8) : ∀ a, smOff s a + S1.size a ≤ S8.size a := by
  revert s; decide
theorem idOff_inb (b : Fin 4) : ∀ a, idOff b a + S1.size a ≤ S4.size a := by
  revert b; decide
theorem rwOff_inb (b : Fin 4) : ∀ a, rwOff b a + S1x1024.size a ≤ S4x1024.size a := by
  revert b; decide

/-- The batch chunk `j` belongs to. -/
abbrev bt (j : Fin 32) : Fin 4 := ⟨j.val / 8, by have := j.isLt; omega⟩

/-- Chunk `j`'s rows of an array shaped like `x`. -/
abbrev chRect (j : Fin 32) : Rect S4x4096x1024 := Rect.unit (chOff j) S1x512x1024.size (chOff_inb j)
/-- Slot `s`'s rows of the ring. -/
abbrev slRect (s : Fin 8) : Rect S8x512x1024 := Rect.unit (slOff s) S1x512x1024.size (slOff_inb s)

/-- Chunk `j` of an array, as the copies name it. -/
abbrev chWin (m : Memref sig .tc .hbm S4x4096x1024 .f32) (j : Fin 32) : Memref sig .tc .hbm S512x1024 .f32 :=
  (m.slice (chRect j) (fun _ => rfl)).squeeze S512x1024 squeezes_S1x512x1024_S512x1024
/-- Slot `s` of the ring, as the copies name it. -/
abbrev slWin (ring : Memref sig .tc .vmem S8x512x1024 .f32) (s : Fin 8) : Memref sig .tc .vmem S512x1024 .f32 :=
  (ring.slice (slRect s) (fun _ => rfl)).squeeze S512x1024 squeezes_S1x512x1024_S512x1024
/-- Slot `s`'s semaphore. -/
abbrev slSem (sems : DmaSems sig S8) (s : Fin 8) : DmaSem sig :=
  ((sems.slice (Rect.unit (s := S8) (smOff s) S1.size (smOff_inb s))).squeeze S_ squeezes_S1_S_).sem

/-! ## The pieces -/

/-- Begin to fetch chunk `j` of `x` into slot `s`. -/
def fetchIn (x : Memref sig .tc .hbm S4x4096x1024 .f32) (ring : Memref sig .tc .vmem S8x512x1024 .f32) (isem : DmaSems sig S8)
    (j : Fin 32) (s : Fin 8) : Prog (TpuEff nD τ sig (Elt F) Λ₀ .tc) PUnit :=
  Prog.lift (.enqueueDma (chWin x j) (.here (slWin ring s)) (.dma (slSem isem s)) ((View.wordExact_bits rfl).reshape _ _) ((View.wordExact_bits rfl).reshape _ _) ⟨Or.inl rfl, trivial⟩)

/-- Wait until chunk `j` of `x` is in slot `s`. -/
def waitIn (x : Memref sig .tc .hbm S4x4096x1024 .f32) (ring : Memref sig .tc .vmem S8x512x1024 .f32) (isem : DmaSems sig S8)
    (j : Fin 32) (s : Fin 8) : Prog (TpuEff nD τ sig (Elt F) Λ₀ .tc) PUnit :=
  Prog.lift (.waitDma2 (slSem isem s) (chWin x j) (slWin ring s) ((View.wordExact_bits rfl).reshape _ _) ((View.wordExact_bits rfl).reshape _ _))

/-- Begin to send slot `s` to chunk `j` of the result. -/
def sendOut (out : Memref sig .tc .hbm S4x4096x1024 .f32) (ring : Memref sig .tc .vmem S8x512x1024 .f32) (osem : DmaSems sig S8)
    (j : Fin 32) (s : Fin 8) : Prog (TpuEff nD τ sig (Elt F) Λ₀ .tc) PUnit :=
  Prog.lift (.enqueueDma (slWin ring s) (.here (chWin out j)) (.dma (slSem osem s)) ((View.wordExact_bits rfl).reshape _ _) ((View.wordExact_bits rfl).reshape _ _) ⟨Or.inl rfl, trivial⟩)

/-- Wait until slot `s` has been sent to chunk `j` of the result. -/
def waitOut (out : Memref sig .tc .hbm S4x4096x1024 .f32) (ring : Memref sig .tc .vmem S8x512x1024 .f32) (osem : DmaSems sig S8)
    (j : Fin 32) (s : Fin 8) : Prog (TpuEff nD τ sig (Elt F) Λ₀ .tc) PUnit :=
  Prog.lift (.waitDma2 (slSem osem s) (slWin ring s) (chWin out j) ((View.wordExact_bits rfl).reshape _ _) ((View.wordExact_bits rfl).reshape _ _))

/-- Replace slot `s`'s contents by `w` of them. -/
def rework (ring : Memref sig .tc .vmem S8x512x1024 .f32) (s : Fin 8) (w : Vec F S1x512x1024 .f32 → FVec F S1x512x1024 .f32) :
    Prog (TpuEff nD τ sig (Elt F) Λ₀ .tc) PUnit := do
  let v : Vec F S1x512x1024 .f32 ← Prog.lift (.load ring (slRect s).toLoadRect (View.loadsAt_vmem h_S1x512x1024))
  let _u : Vec F S1x512x1024 .f32 ← Prog.lift (.load ring (slRect s).toLoadRect (View.loadsAt_vmem h_S1x512x1024))
  Prog.lift (.store ring (slRect s) (w v) Finset.univ (View.stores_vmem_bits_univ h_S1x512x1024 rfl) (.inl rfl))

/-- A block of rows scaled by row `g` and shifted by row `b`. -/
def affine (g b : FVec F S1024 .f32) (v : Vec F S1x512x1024 .f32) : FVec F S1x512x1024 .f32 :=
  shapeCast S1x512x1024
    (addf (mulf (broadcastTo S512x1024 (shapeCast S1x1024 g shapeCasts_S1024_S1x1024) broadcasts_S1x1024_S512x1024)
                (shapeCast S512x1024 v shapeCasts_S1x512x1024_S512x1024))
          (broadcastTo S512x1024 (shapeCast S1x1024 b shapeCasts_S1024_S1x1024) broadcasts_S1x1024_S512x1024))
    shapeCasts_S512x1024_S1x512x1024

/-- The row of a table of four that the word `w` selects, as the first dense kernel computes it: the sum over the four
    rows of each row where its number is `w`, and of zeros elsewhere. -/
def pick (w : Elt F .i32) (t : Vec F S4x1024 .f32) : FVec F S1024 .f32 :=
  multiReduction .add [0] S1024
    (select (broadcastTo S4x1024 (shapeCast S4x1 (cmpi .eq (iota .tc S4x1 32 [0] iota_S4x1_d0_w32) (broadcast S4x1 w)) shapeCasts_S4x1_S4x1) broadcasts_S4x1_S4x1024)
      t (broadcast S4x1024 (Scalar.ofBits .f32 0x00000000#32 : F .f32)))
    0x00000000#32 reduces_S4x1024_S1024 (.inl rfl) rfl

/-- A table's only row read, as a row. -/
def flat (v : Vec F S1x1024 .f32) : FVec F S1024 .f32 := shapeCast S1024 v shapeCasts_S1x1024_S1024

section One
variable (ids : Memref sig .tc .smem S4 .i32) (x : Memref sig .tc .hbm S4x4096x1024 .f32)
  (g b : Memref sig .tc .vmem S4x1024 .f32) (out : Memref sig .tc .hbm S4x4096x1024 .f32)
  (ring : Memref sig .tc .vmem S8x512x1024 .f32) (isem osem : DmaSems sig S8)

/-- The first dense kernel at chunk `j`, in slot `s`: the chunk arrives, the two rows its batch's id names are picked, and
    the chunk is scaled, shifted and begun to be sent. -/
def chunk1 (j : Fin 32) (s : Fin 8) : Prog (TpuEff nD τ sig (Elt F) Λ₀ .tc) PUnit := do
  waitIn x ring isem j s
  let w : Elt F .i32 ← smemLoad ids (Rect.unit (s := S4) (idOff (bt j)) S1.size (idOff_inb (bt j))) numel1_S1 rfl
  let tg : Vec F S4x1024 .f32 ← Prog.lift (.load g (Rect.unit (s := S4x1024) ![0, 0] S4x1024.size inb_S4x1024_S4x1024_0_0).toLoadRect (View.loadsAt_vmem h_S4x1024))
  let tb : Vec F S4x1024 .f32 ← Prog.lift (.load b (Rect.unit (s := S4x1024) ![0, 0] S4x1024.size inb_S4x1024_S4x1024_0_0).toLoadRect (View.loadsAt_vmem h_S4x1024))
  rework ring s (affine (pick w tg) (pick w tb))
  sendOut out ring osem j s

/-- The first dense kernel's body: chunks 0 to 23. -/
def film1 : Prog (TpuEff nD τ sig (Elt F) Λ₀ .tc) PUnit := do
  fetchIn x ring isem 0 0
  fetchIn x ring isem 1 1
  fetchIn x ring isem 2 2
  fetchIn x ring isem 3 3
  fetchIn x ring isem 4 4
  fetchIn x ring isem 5 5
  fetchIn x ring isem 6 6
  chunk1 ids x g b out ring isem osem 0 0
  fetchIn x ring isem 7 7
  chunk1 ids x g b out ring isem osem 1 1
  waitOut out ring osem 0 0
  fetchIn x ring isem 8 0
  chunk1 ids x g b out ring isem osem 2 2
  waitOut out ring osem 1 1
  fetchIn x ring isem 9 1
  chunk1 ids x g b out ring isem osem 3 3
  waitOut out ring osem 2 2
  fetchIn x ring isem 10 2
  chunk1 ids x g b out ring isem osem 4 4
  waitOut out ring osem 3 3
  fetchIn x ring isem 11 3
  chunk1 ids x g b out ring isem osem 5 5
  waitOut out ring osem 4 4
  fetchIn x ring isem 12 4
  chunk1 ids x g b out ring isem osem 6 6
  waitOut out ring osem 5 5
  fetchIn x ring isem 13 5
  chunk1 ids x g b out ring isem osem 7 7
  waitOut out ring osem 6 6
  fetchIn x ring isem 14 6
  chunk1 ids x g b out ring isem osem 8 0
  waitOut out ring osem 7 7
  fetchIn x ring isem 15 7
  chunk1 ids x g b out ring isem osem 9 1
  waitOut out ring osem 8 0
  fetchIn x ring isem 16 0
  chunk1 ids x g b out ring isem osem 10 2
  waitOut out ring osem 9 1
  fetchIn x ring isem 17 1
  chunk1 ids x g b out ring isem osem 11 3
  waitOut out ring osem 10 2
  fetchIn x ring isem 18 2
  chunk1 ids x g b out ring isem osem 12 4
  waitOut out ring osem 11 3
  fetchIn x ring isem 19 3
  chunk1 ids x g b out ring isem osem 13 5
  waitOut out ring osem 12 4
  fetchIn x ring isem 20 4
  chunk1 ids x g b out ring isem osem 14 6
  waitOut out ring osem 13 5
  fetchIn x ring isem 21 5
  chunk1 ids x g b out ring isem osem 15 7
  waitOut out ring osem 14 6
  fetchIn x ring isem 22 6
  chunk1 ids x g b out ring isem osem 16 0
  waitOut out ring osem 15 7
  fetchIn x ring isem 23 7
  chunk1 ids x g b out ring isem osem 17 1
  chunk1 ids x g b out ring isem osem 18 2
  chunk1 ids x g b out ring isem osem 19 3
  chunk1 ids x g b out ring isem osem 20 4
  chunk1 ids x g b out ring isem osem 21 5
  chunk1 ids x g b out ring isem osem 22 6
  chunk1 ids x g b out ring isem osem 23 7
  waitOut out ring osem 16 0
  waitOut out ring osem 17 1
  waitOut out ring osem 18 2
  waitOut out ring osem 19 3
  waitOut out ring osem 20 4
  waitOut out ring osem 21 5
  waitOut out ring osem 22 6
  waitOut out ring osem 23 7
  pure ⟨⟩

end One

section Two
variable (x : Memref sig .tc .hbm S4x4096x1024 .f32)
  (g b : Memref sig .tc .vmem S4x1024 .f32) (out : Memref sig .tc .hbm S4x4096x1024 .f32)
  (ring : Memref sig .tc .vmem S8x512x1024 .f32) (isem osem : DmaSems sig S8)

/-- The second dense kernel at chunk `j`, in slot `s`: as the first, with the batch's rows read from the gathered tables. -/
def chunk2 (j : Fin 32) (s : Fin 8) : Prog (TpuEff nD τ sig (Elt F) Λ₀ .tc) PUnit := do
  waitIn x ring isem j s
  let vg : Vec F S1x1024 .f32 ← Prog.lift (.load g (Rect.unit (s := S4x1024) (rwOff (bt j)) S1x1024.size (rwOff_inb (bt j))).toLoadRect (View.loadsAt_vmem h_S1x1024))
  let vb : Vec F S1x1024 .f32 ← Prog.lift (.load b (Rect.unit (s := S4x1024) (rwOff (bt j)) S1x1024.size (rwOff_inb (bt j))).toLoadRect (View.loadsAt_vmem h_S1x1024))
  rework ring s (affine (flat vg) (flat vb))
  sendOut out ring osem j s

/-- The second dense kernel's body: chunks 24 to 31. -/
def film2 : Prog (TpuEff nD τ sig (Elt F) Λ₀ .tc) PUnit := do
  fetchIn x ring isem 24 0
  fetchIn x ring isem 25 1
  fetchIn x ring isem 26 2
  fetchIn x ring isem 27 3
  fetchIn x ring isem 28 4
  fetchIn x ring isem 29 5
  fetchIn x ring isem 30 6
  chunk2 x g b out ring isem osem 24 0
  fetchIn x ring isem 31 7
  chunk2 x g b out ring isem osem 25 1
  chunk2 x g b out ring isem osem 26 2
  chunk2 x g b out ring isem osem 27 3
  chunk2 x g b out ring isem osem 28 4
  chunk2 x g b out ring isem osem 29 5
  chunk2 x g b out ring isem osem 30 6
  chunk2 x g b out ring isem osem 31 7
  waitOut out ring osem 24 0
  waitOut out ring osem 25 1
  waitOut out ring osem 26 2
  waitOut out ring osem 27 3
  waitOut out ring osem 28 4
  waitOut out ring osem 29 5
  waitOut out ring osem 30 6
  waitOut out ring osem 31 7
  pure ⟨⟩

end Two

set_option maxRecDepth 65536 in
/-- The second dense kernel's printed body is its sequence of pieces. -/
theorem film2_eq (x : Memref sig .tc .hbm S4x4096x1024 .f32) (hx : x.IsWhole) (g : Memref sig .tc .vmem S4x1024 .f32) (hg : g.IsWhole)
    (b : Memref sig .tc .vmem S4x1024 .f32) (hb : b.IsWhole) (prev : Memref sig .tc .hbm S4x4096x1024 .f32) (hp : prev.IsWhole)
    (out : Memref sig .tc .hbm S4x4096x1024 .f32) (ho : out.IsWhole) (ring : Memref sig .tc .vmem S8x512x1024 .f32) (hr : ring.IsWhole)
    (isem osem : DmaSems sig S8) :
    cc2__film2_body_skel (F := F) x hx g hg b hb prev hp out ho ring hr isem osem = film2 x g b out ring isem osem := rfl

set_option maxRecDepth 65536 in
/-- The first dense kernel's printed body is its sequence of pieces. -/
theorem film1_eq (ids : Memref sig .tc .smem S4 .i32) (hi : ids.IsWhole) (x : Memref sig .tc .hbm S4x4096x1024 .f32) (hx : x.IsWhole)
    (g : Memref sig .tc .vmem S4x1024 .f32) (hg : g.IsWhole)
    (b : Memref sig .tc .vmem S4x1024 .f32) (hb : b.IsWhole)
    (out : Memref sig .tc .hbm S4x4096x1024 .f32) (ho : out.IsWhole) (ring : Memref sig .tc .vmem S8x512x1024 .f32) (hr : ring.IsWhole)
    (isem osem : DmaSems sig S8) :
    cc1__film1_body_skel (F := F) ids hi x hx g hg b hb out ho ring hr isem osem = film1 ids x g b out ring isem osem := rfl

end Cert.Proof.Film

end
-- ==== Proof.Common.lean ====
/-
  What the whole proof shares: the program as the launch theorem sees it, the ghost state (the rounds of the calls'
  handshakes, the rounds of the dense kernels' staging copies, and the counters of the copies the kernels make
  themselves), and the launch memory's buffers by name.
-/
module

public import proofs.«01_k».proof.Proof.Segs
public import proofs.«01_k».proof.Proof.Gen.KernelIdeal.Launch
public import proofs.«01_k».proof.Proof.Gen.KernelIdeal.Regions
public import proofs.«01_k».proof.Proof.Gen.KernelIdeal.Points
public import Idealize.ShloMosaic.Lib.SparseCore.Quiescent
public import Idealize.ShloMosaic.Lib.StableHlo.Run
public import Idealize.ShloMosaic.Lib.Batch
public import Idealize.ShloMosaic.Lib.Tactic

@[expose] public section

noncomputable section

namespace Cert.Proof.Film

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are what the launch theorem needs them to be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

end Cert.Proof.Film
-- ==== Proof.Pieces.lean ====
/-
  One rule for each piece of the dense kernels, at any chunk and slot. A copy in flight is a batch of one transfer on
  the slot's semaphore; its landing gives the destination back with the source's rows, and the source.
-/
module

public import proofs.«01_k».proof.Proof.Common

@[expose] public section

noncomputable section

namespace Cert.Proof.Film

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Held windows -/

/-- Chunk `j` of the array `m`, held with rows `v`. -/
def chHas (c : Dev nD) (m : Memref sig .tc .hbm S4x4096x1024 .f32) (j : Fin 32) (v : Vec F S1x512x1024 .f32) : sProp 𝕄 :=
  iprop(∃ f : Buf (Elt F) ((c.tc : Thread nD τ).loc m.view.ref), ⌜(m.access (chRect j)).read (Elt F) f = v⌝
    ∗ (chWin m j).view.loc (c.tc : Thread nD τ) ↦[(chWin m j).view.set]{fullShare} f)

/-- Slot `s` of the ring, held with rows `v`. -/
def slHas (c : Dev nD) (m : Memref sig .tc .vmem S8x512x1024 .f32) (s : Fin 8) (v : Vec F S1x512x1024 .f32) : sProp 𝕄 :=
  iprop(∃ f : Buf (Elt F) ((c.tc : Thread nD τ).loc m.view.ref), ⌜(m.access (slRect s)).read (Elt F) f = v⌝
    ∗ (slWin m s).view.loc (c.tc : Thread nD τ) ↦[(slWin m s).view.set]{fullShare} f)

/-- Chunk `j` of an array, with whatever rows. -/
def chAny (c : Dev nD) (m : Memref sig .tc .hbm S4x4096x1024 .f32) (j : Fin 32) : sProp 𝕄 :=
  iprop(∃ v : Vec F S1x512x1024 .f32, chHas c m j v)
/-- Slot `s` of the ring, with whatever rows. -/
def slAny (c : Dev nD) (m : Memref sig .tc .vmem S8x512x1024 .f32) (s : Fin 8) : sProp 𝕄 :=
  iprop(∃ v : Vec F S1x512x1024 .f32, slHas c m s v)

/-- What landing in a view counts on a copy's semaphore. -/
theorem amount_dma {k : Kind} {sp : Space} {sh : Shape} {e : EltTy} (v : View sig k sp sh e) (sm : DmaSem sig) : v.amount (.dma sm) = v.dmaCredit := rfl

/-- A slot's semaphore, at zero. -/
abbrev smZ (c : Dev nD) (sems : DmaSems sig S8) (s : Fin 8) : sProp 𝕄 := semVal ((c.tc : Thread nD τ), SemLoc.dma (slSem sems s)) 0

instance chHas_storable (c : Dev nD) (m : Memref sig .tc .hbm S4x4096x1024 .f32) (j : Fin 32) (v : Vec F S1x512x1024 .f32) :
    BI.Storable (upEmb : UEmb _ 𝕄) (chHas c m j v) := by unfold chHas; infer_instance
instance slHas_storable (c : Dev nD) (m : Memref sig .tc .vmem S8x512x1024 .f32) (s : Fin 8) (v : Vec F S1x512x1024 .f32) :
    BI.Storable (upEmb : UEmb _ 𝕄) (slHas c m s v) := by unfold slHas; infer_instance

/-- Chunk `j` of `x` on its way into slot `s`. -/
def inFl (c : Dev nD) (x : Memref sig .tc .hbm S4x4096x1024 .f32) (ring : Memref sig .tc .vmem S8x512x1024 .f32) (isem : DmaSems sig S8)
    (j : Fin 32) (s : Fin 8) (v : Vec F S1x512x1024 .f32) : sProp 𝕄 :=
  Transfers.Batch EC (c.tc : Thread nD τ) (.dma (slSem isem s)) none (slWin ring s).view.dmaCredit
    (fun _ : Fin 1 => iprop(slHas c ring s v ∗ chHas c x j v)) 1 0

/-- Slot `s` on its way to chunk `j` of the result. -/
def outFl (c : Dev nD) (out : Memref sig .tc .hbm S4x4096x1024 .f32) (ring : Memref sig .tc .vmem S8x512x1024 .f32) (osem : DmaSems sig S8)
    (j : Fin 32) (s : Fin 8) (v : Vec F S1x512x1024 .f32) : sProp 𝕄 :=
  Transfers.Batch EC (c.tc : Thread nD τ) (.dma (slSem osem s)) none (chWin out j).view.dmaCredit
    (fun _ : Fin 1 => iprop(chHas c out j v ∗ slHas c ring s v)) 1 0

/-- Two blocks of rows that agree through the squeeze agree. -/
theorem eq_of_squeezed {v w : Vec F S1x512x1024 .f32} (h : (fun x : S512x1024.Idx => v (Shape.reshapeEquiv squeezes_S1x512x1024_S512x1024.numel_eq x))
    = fun x => w (Shape.reshapeEquiv squeezes_S1x512x1024_S512x1024.numel_eq x)) : v = w := by
  funext y
  have := congrFun h ((Shape.reshapeEquiv squeezes_S1x512x1024_S512x1024.numel_eq).symm y)
  simpa only [Equiv.apply_symm_apply] using this

/-- A slot rewritten by the rows of a chunk holds those rows. -/
theorem landed_in (c : Dev nD) (x : Memref sig .tc .hbm S4x4096x1024 .f32) (ring : Memref sig .tc .vmem S8x512x1024 .f32) (j : Fin 32) (s : Fin 8)
    (fs : Buf (Elt F) ((c.tc : Thread nD τ).loc x.view.ref)) (fd : Buf (Elt F) ((c.tc : Thread nD τ).loc ring.view.ref)) :
    (ring.access (slRect s)).read (Elt F) ((slWin ring s).view.write (Elt F) fd ((chWin x j).view.read (Elt F) fs) Finset.univ)
      = (x.access (chRect j)).read (Elt F) fs :=
  eq_of_squeezed ((slWin ring s).view.read_write_univ fd ((chWin x j).view.read (Elt F) fs))

/-- A chunk rewritten by the rows of a slot holds those rows. -/
theorem landed_out (c : Dev nD) (out : Memref sig .tc .hbm S4x4096x1024 .f32) (ring : Memref sig .tc .vmem S8x512x1024 .f32) (j : Fin 32) (s : Fin 8)
    (fd : Buf (Elt F) ((c.tc : Thread nD τ).loc out.view.ref)) (fs : Buf (Elt F) ((c.tc : Thread nD τ).loc ring.view.ref)) :
    (out.access (chRect j)).read (Elt F) ((chWin out j).view.write (Elt F) fd ((slWin ring s).view.read (Elt F) fs) Finset.univ)
      = (ring.access (slRect s)).read (Elt F) fs :=
  eq_of_squeezed ((chWin out j).view.read_write_univ fd ((slWin ring s).view.read (Elt F) fs))

variable [FloatOps F]
variable (c : Dev nD) (B : Set (SemLoc sig × HIx 1)) (hB : ∀ sm, (sm, none) ∈ B)

local notation "WP" => wp frame (wpE (defs₀ (F := F)) 𝒱₀ (c.tc : Thread nD τ) none) Set.univ

/-- The core owing nothing, its waits so far within `B`. -/
abbrev free : sProp 𝕄 := Pipeline.owesWithin c (0 : CellTallies nD τ sig (HIx 1)) B

/-! ## The rules -/

/-- One conjunct over one index. -/
theorem bigSep_of_one (Φ : Fin 1 → sProp 𝕄) : bigSep Finset.univ Φ = Φ 0 :=
  bigSep_univ_eq_bigSepL [(0 : Fin 1)] (by decide) (by decide) Φ

theorem chHas_open (c : Dev nD) (m : Memref sig .tc .hbm S4x4096x1024 .f32) (j : Fin 32) (v : Vec F S1x512x1024 .f32) :
    chHas c m j v ⊢ (iprop(∃ f : Buf (Elt F) ((c.tc : Thread nD τ).loc m.view.ref), ⌜(m.access (chRect j)).read (Elt F) f = v⌝
      ∗ (chWin m j).view.loc (c.tc : Thread nD τ) ↦[(chWin m j).view.set]{fullShare} f) : sProp 𝕄) := by unfold chHas; exact Entails.refl
theorem slHas_open (c : Dev nD) (m : Memref sig .tc .vmem S8x512x1024 .f32) (s : Fin 8) (v : Vec F S1x512x1024 .f32) :
    slHas c m s v ⊢ (iprop(∃ f : Buf (Elt F) ((c.tc : Thread nD τ).loc m.view.ref), ⌜(m.access (slRect s)).read (Elt F) f = v⌝
      ∗ (slWin m s).view.loc (c.tc : Thread nD τ) ↦[(slWin m s).view.set]{fullShare} f) : sProp 𝕄) := by unfold slHas; exact Entails.refl

section Moves
variable (m : Memref sig .tc .hbm S4x4096x1024 .f32) (ring : Memref sig .tc .vmem S8x512x1024 .f32) (sems : DmaSems sig S8)
  (j : Fin 32) (s : Fin 8) (v : Vec F S1x512x1024 .f32)

theorem wp_fetchIn {Q : PUnit → sProp 𝕄} :
    iprop(chHas c m j v ∗ slAny c ring s ∗ smZ c sems s) ⊢ iprop((inFl c m ring sems j s v -∗ Q ⟨⟩) -∗ WP (fetchIn m ring sems j s) Q) := by
  unfold slAny inFl fetchIn
  simp only [Prog.lift]
  iintro ⟨Hx, ⟨%v', Hs⟩, Hz⟩ Hk
  ihave Hx := (chHas_open c m j v) $$ Hx
  ihave Hs := (slHas_open c ring s v') $$ Hs
  icases Hx with ⟨%f, %hf, Hx⟩
  icases Hs with ⟨%g, -, Hs⟩
  subst hf
  imod (Transfers.batch_alloc' EC (c.tc : Thread nD τ) (sm := .dma (slSem sems s)) none (slWin ring s).view.dmaCredit
    (fun _ : Fin 1 => iprop(slHas c ring s ((m.access (chRect j)).read (Elt F) f) ∗ chHas c m j ((m.access (chRect j)).read (Elt F) f))) (E := Set.univ)) $$ Hz with HB
  have hD : iprop(((slWin ring s).view.loc (c.tc : Thread nD τ) ↦[(slWin ring s).view.set]{fullShare} ((slWin ring s).view.write (Elt F) g ((chWin m j).view.read (Elt F) f) Finset.univ))
        ∗ ((chWin m j).view.loc (c.tc : Thread nD τ) ↦[(chWin m j).view.set]{fullShare} f))
      ⊢ (iprop(slHas c ring s ((m.access (chRect j)).read (Elt F) f) ∗ chHas c m j ((m.access (chRect j)).read (Elt F) f)) : sProp 𝕄) := by
    unfold slHas chHas
    iintro ⟨Hd, Hs⟩
    isplitl [Hd]
    · iexists _
      isplitr; · ipureintro; exact landed_in c m ring j s f g
      iexact Hd
    · iexists f
      isplitr; · ipureintro; rfl
      iexact Hs
  iapply (Transfers.wp_dmaBatch EC 𝒱₀ (c.tc : Thread nD τ) none (src := chWin m j) (dst := slWin ring s) (via := .same) none (slWin ring s).view.dmaCredit rfl subset_rfl
    (j := 0) (u := 0) Nat.zero_lt_one (Nat.zero_le _) (fs := f) (fd := g) (q := fullShare)
    (D := fun _ : Fin 1 => iprop(slHas c ring s ((m.access (chRect j)).read (Elt F) f) ∗ chHas c m j ((m.access (chRect j)).read (Elt F) f)))
    hD) $$ [Hx Hs HB]
  · isplitl [Hx]; · iexact Hx
    isplitl [Hs]; · iexact Hs
    iexact HB
  iintro HB
  rw [wp_ret]; imodintro
  iapply Hk $$ HB

include hB in
theorem wp_waitIn {Q : PUnit → sProp 𝕄} :
    iprop(inFl c m ring sems j s v ∗ free c B)
      ⊢ iprop((iprop(slHas c ring s v ∗ chHas c m j v ∗ smZ c sems s ∗ free c B) -∗ Q ⟨⟩) -∗ WP (waitIn m ring sems j s) Q) := by
  unfold inFl waitIn
  simp only [Prog.lift]
  iintro ⟨HB, ⟨%W, %hW, HO⟩⟩ Hk
  iapply (Transfers.wp_waitBatchLast EC 𝒱₀ (c.tc : Thread nD τ) none (srcw := chWin m j) (dstw := slWin ring s) none rfl
    (View.dmaCredit_pos _ (by decide)) (u := 0) (by rw [Nat.zero_add, Nat.mul_one])
    (D := fun _ : Fin 1 => iprop(slHas c ring s v ∗ chHas c m j v))) $$ [HB HO]
  · isplitl [HB]; · iexact HB
    iexact HO
  rw [bigSep_of_one]
  iintro ⟨⟨Hs, Hx⟩, Hz, HO⟩
  rw [wp_ret]; imodintro
  iapply Hk
  isplitl [Hs]; · iexact Hs
  isplitl [Hx]; · iexact Hx
  isplitl [Hz]; · iexact Hz
  iexists (insert (SemLoc.dma (slSem sems s), none) W)
  isplitr
  · ipureintro
    rw [Finset.coe_insert]
    exact Set.insert_subset (hB _) hW
  iexact HO

theorem wp_sendOut {Q : PUnit → sProp 𝕄} :
    iprop(slHas c ring s v ∗ chAny c m j ∗ smZ c sems s) ⊢ iprop((outFl c m ring sems j s v -∗ Q ⟨⟩) -∗ WP (sendOut m ring sems j s) Q) := by
  unfold chAny outFl sendOut
  simp only [Prog.lift]
  iintro ⟨Hs, ⟨%v', Hx⟩, Hz⟩ Hk
  ihave Hx := (chHas_open c m j v') $$ Hx
  ihave Hs := (slHas_open c ring s v) $$ Hs
  icases Hx with ⟨%g, -, Hx⟩
  icases Hs with ⟨%f, %hf, Hs⟩
  subst hf
  imod (Transfers.batch_alloc' EC (c.tc : Thread nD τ) (sm := .dma (slSem sems s)) none (chWin m j).view.dmaCredit
    (fun _ : Fin 1 => iprop(chHas c m j ((ring.access (slRect s)).read (Elt F) f) ∗ slHas c ring s ((ring.access (slRect s)).read (Elt F) f))) (E := Set.univ)) $$ Hz with HB
  have hD : iprop(((chWin m j).view.loc (c.tc : Thread nD τ) ↦[(chWin m j).view.set]{fullShare} ((chWin m j).view.write (Elt F) g ((slWin ring s).view.read (Elt F) f) Finset.univ))
        ∗ ((slWin ring s).view.loc (c.tc : Thread nD τ) ↦[(slWin ring s).view.set]{fullShare} f))
      ⊢ (iprop(chHas c m j ((ring.access (slRect s)).read (Elt F) f) ∗ slHas c ring s ((ring.access (slRect s)).read (Elt F) f)) : sProp 𝕄) := by
    unfold slHas chHas
    iintro ⟨Hd, Hs⟩
    isplitl [Hd]
    · iexists _
      isplitr; · ipureintro; exact landed_out c m ring j s g f
      iexact Hd
    · iexists f
      isplitr; · ipureintro; rfl
      iexact Hs
  iapply (Transfers.wp_dmaBatch EC 𝒱₀ (c.tc : Thread nD τ) none (src := slWin ring s) (dst := chWin m j) (via := .same) none (chWin m j).view.dmaCredit rfl subset_rfl
    (j := 0) (u := 0) Nat.zero_lt_one (Nat.zero_le _) (fs := f) (fd := g) (q := fullShare)
    (D := fun _ : Fin 1 => iprop(chHas c m j ((ring.access (slRect s)).read (Elt F) f) ∗ slHas c ring s ((ring.access (slRect s)).read (Elt F) f)))
    hD) $$ [Hs Hx HB]
  · isplitl [Hs]; · iexact Hs
    isplitl [Hx]; · iexact Hx
    iexact HB
  iintro HB
  rw [wp_ret]; imodintro
  iapply Hk $$ HB

include hB in
theorem wp_waitOut {Q : PUnit → sProp 𝕄} :
    iprop(outFl c m ring sems j s v ∗ free c B)
      ⊢ iprop((iprop(chHas c m j v ∗ slAny c ring s ∗ smZ c sems s ∗ free c B) -∗ Q ⟨⟩) -∗ WP (waitOut m ring sems j s) Q) := by
  unfold outFl waitOut slAny
  simp only [Prog.lift]
  iintro ⟨HB, ⟨%W, %hW, HO⟩⟩ Hk
  iapply (Transfers.wp_waitBatchLast EC 𝒱₀ (c.tc : Thread nD τ) none (srcw := slWin ring s) (dstw := chWin m j) none rfl
    (View.dmaCredit_pos _ (by decide)) (u := 0) (by rw [Nat.zero_add, Nat.mul_one])
    (D := fun _ : Fin 1 => iprop(chHas c m j v ∗ slHas c ring s v))) $$ [HB HO]
  · isplitl [HB]; · iexact HB
    iexact HO
  rw [bigSep_of_one]
  iintro ⟨⟨Hx, Hs⟩, Hz, HO⟩
  rw [wp_ret]; imodintro
  iapply Hk
  isplitl [Hx]; · iexact Hx
  isplitl [Hs]; · iexists v; iexact Hs
  isplitl [Hz]; · iexact Hz
  iexists (insert (SemLoc.dma (slSem sems s), none) W)
  isplitr
  · ipureintro
    rw [Finset.coe_insert]
    exact Set.insert_subset (hB _) hW
  iexact HO

theorem wp_rework (w : Vec F S1x512x1024 .f32 → FVec F S1x512x1024 .f32) {Q : PUnit → sProp 𝕄} :
    slHas c ring s v ⊢ iprop((slHas c ring s (w v) -∗ Q ⟨⟩) -∗ WP (rework ring s w) Q) := by
  unfold rework
  simp only [Prog.lift, Prog.bind_op, Prog.bind_ret, Prog.pure_eq_ret]
  iintro Hs Hk
  ihave Hs := (slHas_open c ring s v) $$ Hs
  icases Hs with ⟨%f, %hf, Hs⟩
  have hset : (ring.access (slRect s)).set = (slWin ring s).view.set := ((ring.access (slRect s)).set_reshape _).symm
  iapply (wp_load_rect 𝒱₀ (c.tc : Thread nD τ) none Set.univ hset.subset) $$ Hs
  iintro Hs
  iapply (wp_load_rect 𝒱₀ (c.tc : Thread nD τ) none Set.univ hset.subset) $$ Hs
  iintro Hs
  iapply (wp_store 𝒱₀ (c.tc : Thread nD τ) none Set.univ (show (ring.access (slRect s)).setOn Finset.univ ⊆ (slWin ring s).view.set from hset.subset)) $$ Hs
  iintro Hs
  rw [wp_ret]; imodintro
  iapply Hk
  unfold slHas
  iexists ((ring.access (slRect s)).write (Elt F) f (w v) Finset.univ)
  isplitr
  · ipureintro
    exact View.read_write_univ _ _
  subst hf
  iexact Hs

end Moves

/-! ## One chunk -/

/-- A block held whole at contents `f`. -/
abbrev blk {sp : Space} {sh : Shape} {e : EltTy} (c : Dev nD) (m : Memref sig .tc sp sh e) (f : Buf (Elt F) (m.view.loc (c.tc : Thread nD τ))) : sProp 𝕄 :=
  m.view.loc (c.tc : Thread nD τ) ↦[m.view.set]{fullShare} f

/-- Batch `b`'s word of the ids. -/
abbrev wordAt (ids : Memref sig .tc .smem S4 .i32) (fi : Buf (Elt F) (ids.view.loc (c.tc : Thread nD τ))) (b : Fin 4) : Elt F .i32 :=
  (ids.access (Rect.unit (s := S4) (idOff b) S1.size (idOff_inb b))).read (Elt F) fi (Shape.Idx.first (s := S1) Nat.one_pos)
/-- All four rows of a table. -/
abbrev tableAt (g : Memref sig .tc .vmem S4x1024 .f32) (fg : Buf (Elt F) (g.view.loc (c.tc : Thread nD τ))) : Vec F S4x1024 .f32 :=
  (g.access (Rect.unit (s := S4x1024) ![0, 0] S4x1024.size inb_S4x1024_S4x1024_0_0)).read (Elt F) fg
/-- Row `b` of a table. -/
abbrev rowAt (g : Memref sig .tc .vmem S4x1024 .f32) (fg : Buf (Elt F) (g.view.loc (c.tc : Thread nD τ))) (b : Fin 4) : Vec F S1x1024 .f32 :=
  (g.access (Rect.unit (s := S4x1024) (rwOff b) S1x1024.size (rwOff_inb b))).read (Elt F) fg

theorem wp_word (ids : Memref sig .tc .smem S4 .i32) (fi : Buf (Elt F) (ids.view.loc (c.tc : Thread nD τ))) (b : Fin 4) {Q : Elt F .i32 → sProp 𝕄} :
    blk c ids fi ⊢ iprop((blk c ids fi -∗ Q (wordAt c ids fi b))
      -∗ WP (smemLoad ids (Rect.unit (s := S4) (idOff b) S1.size (idOff_inb b)) numel1_S1 rfl) Q) := by
  unfold smemLoad
  iintro Hi Hk
  iapply (wp_smemLoadElt 𝒱₀ (c.tc : Thread nD τ) none Set.univ (m := ids) (r := Rect.unit (s := S4) (idOff b) S1.size (idOff_inb b))
    (S := ids.view.set) (q := fullShare) (f := fi) (ids.view.set_slice_subset _)) $$ Hi
  iintro Hi
  rw [wp_ret]; imodintro
  iapply Hk $$ Hi

section Chunk
variable (ids : Memref sig .tc .smem S4 .i32) (x : Memref sig .tc .hbm S4x4096x1024 .f32)
  (g b : Memref sig .tc .vmem S4x1024 .f32) (out : Memref sig .tc .hbm S4x4096x1024 .f32)
  (ring : Memref sig .tc .vmem S8x512x1024 .f32) (isem osem : DmaSems sig S8)
  (fi : Buf (Elt F) (ids.view.loc (c.tc : Thread nD τ))) (fg : Buf (Elt F) (g.view.loc (c.tc : Thread nD τ)))
  (fb : Buf (Elt F) (b.view.loc (c.tc : Thread nD τ)))
  (j : Fin 32) (s : Fin 8) (v : Vec F S1x512x1024 .f32)

/-- What the first dense kernel makes of chunk `j`. -/
abbrev made1 : FVec F S1x512x1024 .f32 :=
  affine (pick (wordAt c ids fi (bt j)) (tableAt c g fg)) (pick (wordAt c ids fi (bt j)) (tableAt c b fb)) v
/-- What the second dense kernel makes of chunk `j`. -/
abbrev made2 : FVec F S1x512x1024 .f32 := affine (flat (rowAt c g fg (bt j))) (flat (rowAt c b fb (bt j))) v

include hB in
theorem wp_chunk1 {Q : PUnit → sProp 𝕄} :
    iprop(inFl c x ring isem j s v ∗ chAny c out j ∗ smZ c osem s ∗ blk c ids fi ∗ blk c g fg ∗ blk c b fb ∗ free c B)
      ⊢ iprop((iprop(outFl c out ring osem j s (made1 c ids g b fi fg fb j v) ∗ chHas c x j v ∗ smZ c isem s
          ∗ blk c ids fi ∗ blk c g fg ∗ blk c b fb ∗ free c B) -∗ Q ⟨⟩) -∗ WP (chunk1 ids x g b out ring isem osem j s) Q) := by
  unfold chunk1
  iintro ⟨Hf, Ho, Hz, Hi, Hg, Hb, HO⟩ Hk
  rw [wp_bind]
  iapply (wp_waitIn c B hB x ring isem j s v) $$ [Hf HO]
  · isplitl [Hf]; · iexact Hf
    iexact HO
  iintro ⟨Hs, Hx, Hzi, HO⟩
  rw [wp_bind]
  iapply (wp_word c ids fi (bt j)) $$ Hi
  iintro Hi
  simp only [Prog.lift, Prog.bind_op, Prog.bind_ret, Prog.pure_eq_ret]
  iapply (wp_load_rect 𝒱₀ (c.tc : Thread nD τ) none Set.univ (m := g) (r := Rect.unit (s := S4x1024) ![0, 0] S4x1024.size inb_S4x1024_S4x1024_0_0) (S := g.view.set) (q := fullShare) (f := fg) (g.view.set_slice_subset _)) $$ Hg
  iintro Hg
  iapply (wp_load_rect 𝒱₀ (c.tc : Thread nD τ) none Set.univ (m := b) (r := Rect.unit (s := S4x1024) ![0, 0] S4x1024.size inb_S4x1024_S4x1024_0_0) (S := b.view.set) (q := fullShare) (f := fb) (b.view.set_slice_subset _)) $$ Hb
  iintro Hb
  rw [wp_bind]
  iapply (wp_rework c ring s v _) $$ Hs
  iintro Hs
  iapply (wp_sendOut c out ring osem j s _) $$ [Hs Ho Hz]
  · isplitl [Hs]; · iexact Hs
    isplitl [Ho]; · iexact Ho
    iexact Hz
  iintro Hf
  iapply Hk
  isplitl [Hf]; · iexact Hf
  isplitl [Hx]; · iexact Hx
  isplitl [Hzi]; · iexact Hzi
  isplitl [Hi]; · iexact Hi
  isplitl [Hg]; · iexact Hg
  isplitl [Hb]; · iexact Hb
  iexact HO

include hB in
theorem wp_chunk2 {Q : PUnit → sProp 𝕄} :
    iprop(inFl c x ring isem j s v ∗ chAny c out j ∗ smZ c osem s ∗ blk c g fg ∗ blk c b fb ∗ free c B)
      ⊢ iprop((iprop(outFl c out ring osem j s (made2 c g b fg fb j v) ∗ chHas c x j v ∗ smZ c isem s
          ∗ blk c g fg ∗ blk c b fb ∗ free c B) -∗ Q ⟨⟩) -∗ WP (chunk2 x g b out ring isem osem j s) Q) := by
  unfold chunk2
  iintro ⟨Hf, Ho, Hz, Hg, Hb, HO⟩ Hk
  rw [wp_bind]
  iapply (wp_waitIn c B hB x ring isem j s v) $$ [Hf HO]
  · isplitl [Hf]; · iexact Hf
    iexact HO
  iintro ⟨Hs, Hx, Hzi, HO⟩
  simp only [Prog.lift, Prog.bind_op, Prog.bind_ret, Prog.pure_eq_ret]
  iapply (wp_load_rect 𝒱₀ (c.tc : Thread nD τ) none Set.univ (m := g) (r := Rect.unit (s := S4x1024) (rwOff (bt j)) S1x1024.size (rwOff_inb (bt j))) (S := g.view.set) (q := fullShare) (f := fg) (g.view.set_slice_subset _)) $$ Hg
  iintro Hg
  iapply (wp_load_rect 𝒱₀ (c.tc : Thread nD τ) none Set.univ (m := b) (r := Rect.unit (s := S4x1024) (rwOff (bt j)) S1x1024.size (rwOff_inb (bt j))) (S := b.view.set) (q := fullShare) (f := fb) (b.view.set_slice_subset _)) $$ Hb
  iintro Hb
  rw [wp_bind]
  iapply (wp_rework c ring s v _) $$ Hs
  iintro Hs
  iapply (wp_sendOut c out ring osem j s _) $$ [Hs Ho Hz]
  · isplitl [Hs]; · iexact Hs
    isplitl [Ho]; · iexact Ho
    iexact Hz
  iintro Hf
  iapply Hk
  isplitl [Hf]; · iexact Hf
  isplitl [Hx]; · iexact Hx
  isplitl [Hzi]; · iexact Hzi
  isplitl [Hg]; · iexact Hg
  isplitl [Hb]; · iexact Hb
  iexact HO

end Chunk

end Cert.Proof.Film
-- ==== Proof.Bodies.lean ====
/-
  The two dense kernels run: their pieces' rules composed in the order the bodies have them.
-/
module

public import proofs.«01_k».proof.Proof.Pieces

@[expose] public section

noncomputable section

namespace Cert.Proof.Film

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The first kernel's chunks: batches 0, 1 and 2. -/
abbrev lo (i : Fin 24) : Fin 32 := ⟨i.val, by have := i.isLt; omega⟩
/-- The second kernel's chunks: batch 3. -/
abbrev hi (i : Fin 8) : Fin 32 := ⟨24 + i.val, by have := i.isLt; omega⟩

theorem sep_lo (Φ : Fin 32 → sProp 𝕄) : bigSep Finset.univ (fun i : Fin 24 => Φ (lo i))
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [(0 : Fin 24), (1 : Fin 24), (2 : Fin 24), (3 : Fin 24), (4 : Fin 24), (5 : Fin 24), (6 : Fin 24), (7 : Fin 24), (8 : Fin 24), (9 : Fin 24), (10 : Fin 24), (11 : Fin 24), (12 : Fin 24), (13 : Fin 24), (14 : Fin 24), (15 : Fin 24), (16 : Fin 24), (17 : Fin 24), (18 : Fin 24), (19 : Fin 24), (20 : Fin 24), (21 : Fin 24), (22 : Fin 24), (23 : Fin 24)] (by decide) (by decide) _
theorem sep_hi (Φ : Fin 32 → sProp 𝕄) : bigSep Finset.univ (fun i : Fin 8 => Φ (hi i))
    = iprop(Φ 24 ∗ Φ 25 ∗ Φ 26 ∗ Φ 27 ∗ Φ 28 ∗ Φ 29 ∗ Φ 30 ∗ Φ 31) :=
  bigSep_univ_eq_bigSepL [(0 : Fin 8), (1 : Fin 8), (2 : Fin 8), (3 : Fin 8), (4 : Fin 8), (5 : Fin 8), (6 : Fin 8), (7 : Fin 8)] (by decide) (by decide) _
theorem sep_slots (Φ : Fin 8 → sProp 𝕄) : bigSep Finset.univ (fun s : Fin 8 => Φ s)
    = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) _

variable [FloatOps F]
variable (c : Dev nD) (B : Set (SemLoc sig × HIx 1)) (hB : ∀ sm, (sm, none) ∈ B)

local notation "WP" => wp frame (wpE (defs₀ (F := F)) 𝒱₀ (c.tc : Thread nD τ) none) Set.univ

variable (ids : Memref sig .tc .smem S4 .i32) (x : Memref sig .tc .hbm S4x4096x1024 .f32)
  (g b : Memref sig .tc .vmem S4x1024 .f32) (out : Memref sig .tc .hbm S4x4096x1024 .f32)
  (ring : Memref sig .tc .vmem S8x512x1024 .f32) (isem osem : DmaSems sig S8)
  (fi : Buf (Elt F) (ids.view.loc (c.tc : Thread nD τ))) (fg : Buf (Elt F) (g.view.loc (c.tc : Thread nD τ)))
  (fb : Buf (Elt F) (b.view.loc (c.tc : Thread nD τ)))
  (v : Fin 32 → Vec F S1x512x1024 .f32)

include hB in
/-- What the second dense kernel does: its chunks of the result hold what it makes of the chunks of `x`, and all it was lent is back. -/
theorem wp_film2 {Q : PUnit → sProp 𝕄} :
    iprop(bigSep Finset.univ (fun i : Fin 8 => chHas c x (hi i) (v (hi i))) ∗ bigSep Finset.univ (fun i : Fin 8 => chAny c out (hi i))
        ∗ bigSep Finset.univ (fun s : Fin 8 => slAny c ring s) ∗ bigSep Finset.univ (fun s : Fin 8 => smZ c isem s)
        ∗ bigSep Finset.univ (fun s : Fin 8 => smZ c osem s) ∗ blk c g fg ∗ blk c b fb ∗ free c B)
      ⊢ iprop((iprop(bigSep Finset.univ (fun i : Fin 8 => chHas c x (hi i) (v (hi i)))
        ∗ bigSep Finset.univ (fun i : Fin 8 => chHas c out (hi i) (made2 c g b fg fb (hi i) (v (hi i))))
        ∗ bigSep Finset.univ (fun s : Fin 8 => slAny c ring s) ∗ bigSep Finset.univ (fun s : Fin 8 => smZ c isem s)
        ∗ bigSep Finset.univ (fun s : Fin 8 => smZ c osem s) ∗ blk c g fg ∗ blk c b fb ∗ free c B) -∗ Q ⟨⟩)
          -∗ WP (film2 x g b out ring isem osem) Q) := by
  rw [sep_hi (fun j => chHas c x j (v j)), sep_hi (fun j => chAny c out j), sep_hi (fun j => chHas c out j (made2 c g b fg fb j (v j))),
    sep_slots (fun s => slAny c ring s), sep_slots (fun s => smZ c isem s), sep_slots (fun s => smZ c osem s)]
  unfold film2
  iintro ⟨⟨Hx24, Hx25, Hx26, Hx27, Hx28, Hx29, Hx30, Hx31⟩, ⟨Ho24, Ho25, Ho26, Ho27, Ho28, Ho29, Ho30, Ho31⟩, ⟨Hs0, Hs1, Hs2, Hs3, Hs4, Hs5, Hs6, Hs7⟩, ⟨Ha0, Ha1, Ha2, Ha3, Ha4, Ha5, Ha6, Ha7⟩, ⟨Hb0, Hb1, Hb2, Hb3, Hb4, Hb5, Hb6, Hb7⟩, Hg, Hc, HO⟩ Hk
  rw [wp_bind]
  iapply (wp_fetchIn c x ring isem 24 0 (v 24)) $$ [Hx24 Hs0 Ha0]
  · isplitl [Hx24]; · iexact Hx24
    isplitl [Hs0]; · iexact Hs0
    iexact Ha0
  iintro Hf24
  rw [wp_bind]
  iapply (wp_fetchIn c x ring isem 25 1 (v 25)) $$ [Hx25 Hs1 Ha1]
  · isplitl [Hx25]; · iexact Hx25
    isplitl [Hs1]; · iexact Hs1
    iexact Ha1
  iintro Hf25
  rw [wp_bind]
  iapply (wp_fetchIn c x ring isem 26 2 (v 26)) $$ [Hx26 Hs2 Ha2]
  · isplitl [Hx26]; · iexact Hx26
    isplitl [Hs2]; · iexact Hs2
    iexact Ha2
  iintro Hf26
  rw [wp_bind]
  iapply (wp_fetchIn c x ring isem 27 3 (v 27)) $$ [Hx27 Hs3 Ha3]
  · isplitl [Hx27]; · iexact Hx27
    isplitl [Hs3]; · iexact Hs3
    iexact Ha3
  iintro Hf27
  rw [wp_bind]
  iapply (wp_fetchIn c x ring isem 28 4 (v 28)) $$ [Hx28 Hs4 Ha4]
  · isplitl [Hx28]; · iexact Hx28
    isplitl [Hs4]; · iexact Hs4
    iexact Ha4
  iintro Hf28
  rw [wp_bind]
  iapply (wp_fetchIn c x ring isem 29 5 (v 29)) $$ [Hx29 Hs5 Ha5]
  · isplitl [Hx29]; · iexact Hx29
    isplitl [Hs5]; · iexact Hs5
    iexact Ha5
  iintro Hf29
  rw [wp_bind]
  iapply (wp_fetchIn c x ring isem 30 6 (v 30)) $$ [Hx30 Hs6 Ha6]
  · isplitl [Hx30]; · iexact Hx30
    isplitl [Hs6]; · iexact Hs6
    iexact Ha6
  iintro Hf30
  rw [wp_bind]
  iapply (wp_chunk2 c B hB x g b out ring isem osem fg fb 24 0 (v 24)) $$ [Hf24 Ho24 Hb0 Hg Hc HO]
  · isplitl [Hf24]; · iexact Hf24
    isplitl [Ho24]; · iexact Ho24
    isplitl [Hb0]; · iexact Hb0
    isplitl [Hg]; · iexact Hg
    isplitl [Hc]; · iexact Hc
    iexact HO
  iintro ⟨Hr24, Hx24, Ha0, Hg, Hc, HO⟩
  rw [wp_bind]
  iapply (wp_fetchIn c x ring isem 31 7 (v 31)) $$ [Hx31 Hs7 Ha7]
  · isplitl [Hx31]; · iexact Hx31
    isplitl [Hs7]; · iexact Hs7
    iexact Ha7
  iintro Hf31
  rw [wp_bind]
  iapply (wp_chunk2 c B hB x g b out ring isem osem fg fb 25 1 (v 25)) $$ [Hf25 Ho25 Hb1 Hg Hc HO]
  · isplitl [Hf25]; · iexact Hf25
    isplitl [Ho25]; · iexact Ho25
    isplitl [Hb1]; · iexact Hb1
    isplitl [Hg]; · iexact Hg
    isplitl [Hc]; · iexact Hc
    iexact HO
  iintro ⟨Hr25, Hx25, Ha1, Hg, Hc, HO⟩
  rw [wp_bind]
  iapply (wp_chunk2 c B hB x g b out ring isem osem fg fb 26 2 (v 26)) $$ [Hf26 Ho26 Hb2 Hg Hc HO]
  · isplitl [Hf26]; · iexact Hf26
    isplitl [Ho26]; · iexact Ho26
    isplitl [Hb2]; · iexact Hb2
    isplitl [Hg]; · iexact Hg
    isplitl [Hc]; · iexact Hc
    iexact HO
  iintro ⟨Hr26, Hx26, Ha2, Hg, Hc, HO⟩
  rw [wp_bind]
  iapply (wp_chunk2 c B hB x g b out ring isem osem fg fb 27 3 (v 27)) $$ [Hf27 Ho27 Hb3 Hg Hc HO]
  · isplitl [Hf27]; · iexact Hf27
    isplitl [Ho27]; · iexact Ho27
    isplitl [Hb3]; · iexact Hb3
    isplitl [Hg]; · iexact Hg
    isplitl [Hc]; · iexact Hc
    iexact HO
  iintro ⟨Hr27, Hx27, Ha3, Hg, Hc, HO⟩
  rw [wp_bind]
  iapply (wp_chunk2 c B hB x g b out ring isem osem fg fb 28 4 (v 28)) $$ [Hf28 Ho28 Hb4 Hg Hc HO]
  · isplitl [Hf28]; · iexact Hf28
    isplitl [Ho28]; · iexact Ho28
    isplitl [Hb4]; · iexact Hb4
    isplitl [Hg]; · iexact Hg
    isplitl [Hc]; · iexact Hc
    iexact HO
  iintro ⟨Hr28, Hx28, Ha4, Hg, Hc, HO⟩
  rw [wp_bind]
  iapply (wp_chunk2 c B hB x g b out ring isem osem fg fb 29 5 (v 29)) $$ [Hf29 Ho29 Hb5 Hg Hc HO]
  · isplitl [Hf29]; · iexact Hf29
    isplitl [Ho29]; · iexact Ho29
    isplitl [Hb5]; · iexact Hb5
    isplitl [Hg]; · iexact Hg
    isplitl [Hc]; · iexact Hc
    iexact HO
  iintro ⟨Hr29, Hx29, Ha5, Hg, Hc, HO⟩
  rw [wp_bind]
  iapply (wp_chunk2 c B hB x g b out ring isem osem fg fb 30 6 (v 30)) $$ [Hf30 Ho30 Hb6 Hg Hc HO]
  · isplitl [Hf30]; · iexact Hf30
    isplitl [Ho30]; · iexact Ho30
    isplitl [Hb6]; · iexact Hb6
    isplitl [Hg]; · iexact Hg
    isplitl [Hc]; · iexact Hc
    iexact HO
  iintro ⟨Hr30, Hx30, Ha6, Hg, Hc, HO⟩
  rw [wp_bind]
  iapply (wp_chunk2 c B hB x g b out ring isem osem fg fb 31 7 (v 31)) $$ [Hf31 Ho31 Hb7 Hg Hc HO]
  · isplitl [Hf31]; · iexact Hf31
    isplitl [Ho31]; · iexact Ho31
    isplitl [Hb7]; · iexact Hb7
    isplitl [Hg]; · iexact Hg
    isplitl [Hc]; · iexact Hc
    iexact HO
  iintro ⟨Hr31, Hx31, Ha7, Hg, Hc, HO⟩
  rw [wp_bind]
  iapply (wp_waitOut c B hB out ring osem 24 0 _) $$ [Hr24 HO]
  · isplitl [Hr24]; · iexact Hr24
    iexact HO
  iintro ⟨Ho24, Hs0, Hb0, HO⟩
  rw [wp_bind]
  iapply (wp_waitOut c B hB out ring osem 25 1 _) $$ [Hr25 HO]
  · isplitl [Hr25]; · iexact Hr25
    iexact HO
  iintro ⟨Ho25, Hs1, Hb1, HO⟩
  rw [wp_bind]
  iapply (wp_waitOut c B hB out ring osem 26 2 _) $$ [Hr26 HO]
  · isplitl [Hr26]; · iexact Hr26
    iexact HO
  iintro ⟨Ho26, Hs2, Hb2, HO⟩
  rw [wp_bind]
  iapply (wp_waitOut c B hB out ring osem 27 3 _) $$ [Hr27 HO]
  · isplitl [Hr27]; · iexact Hr27
    iexact HO
  iintro ⟨Ho27, Hs3, Hb3, HO⟩
  rw [wp_bind]
  iapply (wp_waitOut c B hB out ring osem 28 4 _) $$ [Hr28 HO]
  · isplitl [Hr28]; · iexact Hr28
    iexact HO
  iintro ⟨Ho28, Hs4, Hb4, HO⟩
  rw [wp_bind]
  iapply (wp_waitOut c B hB out ring osem 29 5 _) $$ [Hr29 HO]
  · isplitl [Hr29]; · iexact Hr29
    iexact HO
  iintro ⟨Ho29, Hs5, Hb5, HO⟩
  rw [wp_bind]
  iapply (wp_waitOut c B hB out ring osem 30 6 _) $$ [Hr30 HO]
  · isplitl [Hr30]; · iexact Hr30
    iexact HO
  iintro ⟨Ho30, Hs6, Hb6, HO⟩
  rw [wp_bind]
  iapply (wp_waitOut c B hB out ring osem 31 7 _) $$ [Hr31 HO]
  · isplitl [Hr31]; · iexact Hr31
    iexact HO
  iintro ⟨Ho31, Hs7, Hb7, HO⟩
  simp only [Prog.pure_eq_ret]
  rw [wp_ret]; imodintro
  iapply Hk
  isplitl [Hx24 Hx25 Hx26 Hx27 Hx28 Hx29 Hx30 Hx31]
  · isplitl [Hx24]; · iexact Hx24
    isplitl [Hx25]; · iexact Hx25
    isplitl [Hx26]; · iexact Hx26
    isplitl [Hx27]; · iexact Hx27
    isplitl [Hx28]; · iexact Hx28
    isplitl [Hx29]; · iexact Hx29
    isplitl [Hx30]; · iexact Hx30
    iexact Hx31
  isplitl [Ho24 Ho25 Ho26 Ho27 Ho28 Ho29 Ho30 Ho31]
  · isplitl [Ho24]; · iexact Ho24
    isplitl [Ho25]; · iexact Ho25
    isplitl [Ho26]; · iexact Ho26
    isplitl [Ho27]; · iexact Ho27
    isplitl [Ho28]; · iexact Ho28
    isplitl [Ho29]; · iexact Ho29
    isplitl [Ho30]; · iexact Ho30
    iexact Ho31
  isplitl [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  isplitl [Ha0 Ha1 Ha2 Ha3 Ha4 Ha5 Ha6 Ha7]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  isplitl [Hb0 Hb1 Hb2 Hb3 Hb4 Hb5 Hb6 Hb7]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7
  isplitl [Hg]; · iexact Hg
  isplitl [Hc]; · iexact Hc
  iexact HO

set_option maxHeartbeats 2000000 in
include hB in
/-- What the first dense kernel does: its chunks of the result hold what it makes of the chunks of `x`, and all it was lent is back. -/
theorem wp_film1 {Q : PUnit → sProp 𝕄} :
    iprop(bigSep Finset.univ (fun i : Fin 24 => chHas c x (lo i) (v (lo i))) ∗ bigSep Finset.univ (fun i : Fin 24 => chAny c out (lo i))
        ∗ bigSep Finset.univ (fun s : Fin 8 => slAny c ring s) ∗ bigSep Finset.univ (fun s : Fin 8 => smZ c isem s)
        ∗ bigSep Finset.univ (fun s : Fin 8 => smZ c osem s) ∗ blk c ids fi ∗ blk c g fg ∗ blk c b fb ∗ free c B)
      ⊢ iprop((iprop(bigSep Finset.univ (fun i : Fin 24 => chHas c x (lo i) (v (lo i)))
        ∗ bigSep Finset.univ (fun i : Fin 24 => chHas c out (lo i) (made1 c ids g b fi fg fb (lo i) (v (lo i))))
        ∗ bigSep Finset.univ (fun s : Fin 8 => slAny c ring s) ∗ bigSep Finset.univ (fun s : Fin 8 => smZ c isem s)
        ∗ bigSep Finset.univ (fun s : Fin 8 => smZ c osem s) ∗ blk c ids fi ∗ blk c g fg ∗ blk c b fb ∗ free c B) -∗ Q ⟨⟩)
          -∗ WP (film1 ids x g b out ring isem osem) Q) := by
  rw [sep_lo (fun j => chHas c x j (v j)), sep_lo (fun j => chAny c out j), sep_lo (fun j => chHas c out j (made1 c ids g b fi fg fb j (v j))),
    sep_slots (fun s => slAny c ring s), sep_slots (fun s => smZ c isem s), sep_slots (fun s => smZ c osem s)]
  unfold film1
  iintro ⟨⟨Hx0, Hx1, Hx2, Hx3, Hx4, Hx5, Hx6, Hx7, Hx8, Hx9, Hx10, Hx11, Hx12, Hx13, Hx14, Hx15, Hx16, Hx17, Hx18, Hx19, Hx20, Hx21, Hx22, Hx23⟩, ⟨Ho0, Ho1, Ho2, Ho3, Ho4, Ho5, Ho6, Ho7, Ho8, Ho9, Ho10, Ho11, Ho12, Ho13, Ho14, Ho15, Ho16, Ho17, Ho18, Ho19, Ho20, Ho21, Ho22, Ho23⟩, ⟨Hs0, Hs1, Hs2, Hs3, Hs4, Hs5, Hs6, Hs7⟩, ⟨Ha0, Ha1, Ha2, Ha3, Ha4, Ha5, Ha6, Ha7⟩, ⟨Hb0, Hb1, Hb2, Hb3, Hb4, Hb5, Hb6, Hb7⟩, Hi, Hg, Hc, HO⟩ Hk
  rw [wp_bind]
  iapply (wp_fetchIn c x ring isem 0 0 (v 0)) $$ [Hx0 Hs0 Ha0]
  · isplitl [Hx0]; · iexact Hx0
    isplitl [Hs0]; · iexact Hs0
    iexact Ha0
  iintro Hf0
  rw [wp_bind]
  iapply (wp_fetchIn c x ring isem 1 1 (v 1)) $$ [Hx1 Hs1 Ha1]
  · isplitl [Hx1]; · iexact Hx1
    isplitl [Hs1]; · iexact Hs1
    iexact Ha1
  iintro Hf1
  rw [wp_bind]
  iapply (wp_fetchIn c x ring isem 2 2 (v 2)) $$ [Hx2 Hs2 Ha2]
  · isplitl [Hx2]; · iexact Hx2
    isplitl [Hs2]; · iexact Hs2
    iexact Ha2
  iintro Hf2
  rw [wp_bind]
  iapply (wp_fetchIn c x ring isem 3 3 (v 3)) $$ [Hx3 Hs3 Ha3]
  · isplitl [Hx3]; · iexact Hx3
    isplitl [Hs3]; · iexact Hs3
    iexact Ha3
  iintro Hf3
  rw [wp_bind]
  iapply (wp_fetchIn c x ring isem 4 4 (v 4)) $$ [Hx4 Hs4 Ha4]
  · isplitl [Hx4]; · iexact Hx4
    isplitl [Hs4]; · iexact Hs4
    iexact Ha4
  iintro Hf4
  rw [wp_bind]
  iapply (wp_fetchIn c x ring isem 5 5 (v 5)) $$ [Hx5 Hs5 Ha5]
  · isplitl [Hx5]; · iexact Hx5
    isplitl [Hs5]; · iexact Hs5
    iexact Ha5
  iintro Hf5
  rw [wp_bind]
  iapply (wp_fetchIn c x ring isem 6 6 (v 6)) $$ [Hx6 Hs6 Ha6]
  · isplitl [Hx6]; · iexact Hx6
    isplitl [Hs6]; · iexact Hs6
    iexact Ha6
  iintro Hf6
  rw [wp_bind]
  iapply (wp_chunk1 c B hB ids x g b out ring isem osem fi fg fb 0 0 (v 0)) $$ [Hf0 Ho0 Hb0 Hi Hg Hc HO]
  · isplitl [Hf0]; · iexact Hf0
    isplitl [Ho0]; · iexact Ho0
    isplitl [Hb0]; · iexact Hb0
    isplitl [Hi]; · iexact Hi
    isplitl [Hg]; · iexact Hg
    isplitl [Hc]; · iexact Hc
    iexact HO
  iintro ⟨Hr0, Hx0, Ha0, Hi, Hg, Hc, HO⟩
  rw [wp_bind]
  iapply (wp_fetchIn c x ring isem 7 7 (v 7)) $$ [Hx7 Hs7 Ha7]
  · isplitl [Hx7]; · iexact Hx7
    isplitl [Hs7]; · iexact Hs7
    iexact Ha7
  iintro Hf7
  rw [wp_bind]
  iapply (wp_chunk1 c B hB ids x g b out ring isem osem fi fg fb 1 1 (v 1)) $$ [Hf1 Ho1 Hb1 Hi Hg Hc HO]
  · isplitl [Hf1]; · iexact Hf1
    isplitl [Ho1]; · iexact Ho1
    isplitl [Hb1]; · iexact Hb1
    isplitl [Hi]; · iexact Hi
    isplitl [Hg]; · iexact Hg
    isplitl [Hc]; · iexact Hc
    iexact HO
  iintro ⟨Hr1, Hx1, Ha1, Hi, Hg, Hc, HO⟩
  rw [wp_bind]
  iapply (wp_waitOut c B hB out ring osem 0 0 _) $$ [Hr0 HO]
  · isplitl [Hr0]; · iexact Hr0
    iexact HO
  iintro ⟨Ho0, Hs0, Hb0, HO⟩
  rw [wp_bind]
  iapply (wp_fetchIn c x ring isem 8 0 (v 8)) $$ [Hx8 Hs0 Ha0]
  · isplitl [Hx8]; · iexact Hx8
    isplitl [Hs0]; · iexact Hs0
    iexact Ha0
  iintro Hf8
  rw [wp_bind]
  iapply (wp_chunk1 c B hB ids x g b out ring isem osem fi fg fb 2 2 (v 2)) $$ [Hf2 Ho2 Hb2 Hi Hg Hc HO]
  · isplitl [Hf2]; · iexact Hf2
    isplitl [Ho2]; · iexact Ho2
    isplitl [Hb2]; · iexact Hb2
    isplitl [Hi]; · iexact Hi
    isplitl [Hg]; · iexact Hg
    isplitl [Hc]; · iexact Hc
    iexact HO
  iintro ⟨Hr2, Hx2, Ha2, Hi, Hg, Hc, HO⟩
  rw [wp_bind]
  iapply (wp_waitOut c B hB out ring osem 1 1 _) $$ [Hr1 HO]
  · isplitl [Hr1]; · iexact Hr1
    iexact HO
  iintro ⟨Ho1, Hs1, Hb1, HO⟩
  rw [wp_bind]
  iapply (wp_fetchIn c x ring isem 9 1 (v 9)) $$ [Hx9 Hs1 Ha1]
  · isplitl [Hx9]; · iexact Hx9
    isplitl [Hs1]; · iexact Hs1
    iexact Ha1
  iintro Hf9
  rw [wp_bind]
  iapply (wp_chunk1 c B hB ids x g b out ring isem osem fi fg fb 3 3 (v 3)) $$ [Hf3 Ho3 Hb3 Hi Hg Hc HO]
  · isplitl [Hf3]; · iexact Hf3
    isplitl [Ho3]; · iexact Ho3
    isplitl [Hb3]; · iexact Hb3
    isplitl [Hi]; · iexact Hi
    isplitl [Hg]; · iexact Hg
    isplitl [Hc]; · iexact Hc
    iexact HO
  iintro ⟨Hr3, Hx3, Ha3, Hi, Hg, Hc, HO⟩
  rw [wp_bind]
  iapply (wp_waitOut c B hB out ring osem 2 2 _) $$ [Hr2 HO]
  · isplitl [Hr2]; · iexact Hr2
    iexact HO
  iintro ⟨Ho2, Hs2, Hb2, HO⟩
  rw [wp_bind]
  iapply (wp_fetchIn c x ring isem 10 2 (v 10)) $$ [Hx10 Hs2 Ha2]
  · isplitl [Hx10]; · iexact Hx10
    isplitl [Hs2]; · iexact Hs2
    iexact Ha2
  iintro Hf10
  rw [wp_bind]
  iapply (wp_chunk1 c B hB ids x g b out ring isem osem fi fg fb 4 4 (v 4)) $$ [Hf4 Ho4 Hb4 Hi Hg Hc HO]
  · isplitl [Hf4]; · iexact Hf4
    isplitl [Ho4]; · iexact Ho4
    isplitl [Hb4]; · iexact Hb4
    isplitl [Hi]; · iexact Hi
    isplitl [Hg]; · iexact Hg
    isplitl [Hc]; · iexact Hc
    iexact HO
  iintro ⟨Hr4, Hx4, Ha4, Hi, Hg, Hc, HO⟩
  rw [wp_bind]
  iapply (wp_waitOut c B hB out ring osem 3 3 _) $$ [Hr3 HO]
  · isplitl [Hr3]; · iexact Hr3
    iexact HO
  iintro ⟨Ho3, Hs3, Hb3, HO⟩
  rw [wp_bind]
  iapply (wp_fetchIn c x ring isem 11 3 (v 11)) $$ [Hx11 Hs3 Ha3]
  · isplitl [Hx11]; · iexact Hx11
    isplitl [Hs3]; · iexact Hs3
    iexact Ha3
  iintro Hf11
  rw [wp_bind]
  iapply (wp_chunk1 c B hB ids x g b out ring isem osem fi fg fb 5 5 (v 5)) $$ [Hf5 Ho5 Hb5 Hi Hg Hc HO]
  · isplitl [Hf5]; · iexact Hf5
    isplitl [Ho5]; · iexact Ho5
    isplitl [Hb5]; · iexact Hb5
    isplitl [Hi]; · iexact Hi
    isplitl [Hg]; · iexact Hg
    isplitl [Hc]; · iexact Hc
    iexact HO
  iintro ⟨Hr5, Hx5, Ha5, Hi, Hg, Hc, HO⟩
  rw [wp_bind]
  iapply (wp_waitOut c B hB out ring osem 4 4 _) $$ [Hr4 HO]
  · isplitl [Hr4]; · iexact Hr4
    iexact HO
  iintro ⟨Ho4, Hs4, Hb4, HO⟩
  rw [wp_bind]
  iapply (wp_fetchIn c x ring isem 12 4 (v 12)) $$ [Hx12 Hs4 Ha4]
  · isplitl [Hx12]; · iexact Hx12
    isplitl [Hs4]; · iexact Hs4
    iexact Ha4
  iintro Hf12
  rw [wp_bind]
  iapply (wp_chunk1 c B hB ids x g b out ring isem osem fi fg fb 6 6 (v 6)) $$ [Hf6 Ho6 Hb6 Hi Hg Hc HO]
  · isplitl [Hf6]; · iexact Hf6
    isplitl [Ho6]; · iexact Ho6
    isplitl [Hb6]; · iexact Hb6
    isplitl [Hi]; · iexact Hi
    isplitl [Hg]; · iexact Hg
    isplitl [Hc]; · iexact Hc
    iexact HO
  iintro ⟨Hr6, Hx6, Ha6, Hi, Hg, Hc, HO⟩
  rw [wp_bind]
  iapply (wp_waitOut c B hB out ring osem 5 5 _) $$ [Hr5 HO]
  · isplitl [Hr5]; · iexact Hr5
    iexact HO
  iintro ⟨Ho5, Hs5, Hb5, HO⟩
  rw [wp_bind]
  iapply (wp_fetchIn c x ring isem 13 5 (v 13)) $$ [Hx13 Hs5 Ha5]
  · isplitl [Hx13]; · iexact Hx13
    isplitl [Hs5]; · iexact Hs5
    iexact Ha5
  iintro Hf13
  rw [wp_bind]
  iapply (wp_chunk1 c B hB ids x g b out ring isem osem fi fg fb 7 7 (v 7)) $$ [Hf7 Ho7 Hb7 Hi Hg Hc HO]
  · isplitl [Hf7]; · iexact Hf7
    isplitl [Ho7]; · iexact Ho7
    isplitl [Hb7]; · iexact Hb7
    isplitl [Hi]; · iexact Hi
    isplitl [Hg]; · iexact Hg
    isplitl [Hc]; · iexact Hc
    iexact HO
  iintro ⟨Hr7, Hx7, Ha7, Hi, Hg, Hc, HO⟩
  rw [wp_bind]
  iapply (wp_waitOut c B hB out ring osem 6 6 _) $$ [Hr6 HO]
  · isplitl [Hr6]; · iexact Hr6
    iexact HO
  iintro ⟨Ho6, Hs6, Hb6, HO⟩
  rw [wp_bind]
  iapply (wp_fetchIn c x ring isem 14 6 (v 14)) $$ [Hx14 Hs6 Ha6]
  · isplitl [Hx14]; · iexact Hx14
    isplitl [Hs6]; · iexact Hs6
    iexact Ha6
  iintro Hf14
  rw [wp_bind]
  iapply (wp_chunk1 c B hB ids x g b out ring isem osem fi fg fb 8 0 (v 8)) $$ [Hf8 Ho8 Hb0 Hi Hg Hc HO]
  · isplitl [Hf8]; · iexact Hf8
    isplitl [Ho8]; · iexact Ho8
    isplitl [Hb0]; · iexact Hb0
    isplitl [Hi]; · iexact Hi
    isplitl [Hg]; · iexact Hg
    isplitl [Hc]; · iexact Hc
    iexact HO
  iintro ⟨Hr8, Hx8, Ha0, Hi, Hg, Hc, HO⟩
  rw [wp_bind]
  iapply (wp_waitOut c B hB out ring osem 7 7 _) $$ [Hr7 HO]
  · isplitl [Hr7]; · iexact Hr7
    iexact HO
  iintro ⟨Ho7, Hs7, Hb7, HO⟩
  rw [wp_bind]
  iapply (wp_fetchIn c x ring isem 15 7 (v 15)) $$ [Hx15 Hs7 Ha7]
  · isplitl [Hx15]; · iexact Hx15
    isplitl [Hs7]; · iexact Hs7
    iexact Ha7
  iintro Hf15
  rw [wp_bind]
  iapply (wp_chunk1 c B hB ids x g b out ring isem osem fi fg fb 9 1 (v 9)) $$ [Hf9 Ho9 Hb1 Hi Hg Hc HO]
  · isplitl [Hf9]; · iexact Hf9
    isplitl [Ho9]; · iexact Ho9
    isplitl [Hb1]; · iexact Hb1
    isplitl [Hi]; · iexact Hi
    isplitl [Hg]; · iexact Hg
    isplitl [Hc]; · iexact Hc
    iexact HO
  iintro ⟨Hr9, Hx9, Ha1, Hi, Hg, Hc, HO⟩
  rw [wp_bind]
  iapply (wp_waitOut c B hB out ring osem 8 0 _) $$ [Hr8 HO]
  · isplitl [Hr8]; · iexact Hr8
    iexact HO
  iintro ⟨Ho8, Hs0, Hb0, HO⟩
  rw [wp_bind]
  iapply (wp_fetchIn c x ring isem 16 0 (v 16)) $$ [Hx16 Hs0 Ha0]
  · isplitl [Hx16]; · iexact Hx16
    isplitl [Hs0]; · iexact Hs0
    iexact Ha0
  iintro Hf16
  rw [wp_bind]
  iapply (wp_chunk1 c B hB ids x g b out ring isem osem fi fg fb 10 2 (v 10)) $$ [Hf10 Ho10 Hb2 Hi Hg Hc HO]
  · isplitl [Hf10]; · iexact Hf10
    isplitl [Ho10]; · iexact Ho10
    isplitl [Hb2]; · iexact Hb2
    isplitl [Hi]; · iexact Hi
    isplitl [Hg]; · iexact Hg
    isplitl [Hc]; · iexact Hc
    iexact HO
  iintro ⟨Hr10, Hx10, Ha2, Hi, Hg, Hc, HO⟩
  rw [wp_bind]
  iapply (wp_waitOut c B hB out ring osem 9 1 _) $$ [Hr9 HO]
  · isplitl [Hr9]; · iexact Hr9
    iexact HO
  iintro ⟨Ho9, Hs1, Hb1, HO⟩
  rw [wp_bind]
  iapply (wp_fetchIn c x ring isem 17 1 (v 17)) $$ [Hx17 Hs1 Ha1]
  · isplitl [Hx17]; · iexact Hx17
    isplitl [Hs1]; · iexact Hs1
    iexact Ha1
  iintro Hf17
  rw [wp_bind]
  iapply (wp_chunk1 c B hB ids x g b out ring isem osem fi fg fb 11 3 (v 11)) $$ [Hf11 Ho11 Hb3 Hi Hg Hc HO]
  · isplitl [Hf11]; · iexact Hf11
    isplitl [Ho11]; · iexact Ho11
    isplitl [Hb3]; · iexact Hb3
    isplitl [Hi]; · iexact Hi
    isplitl [Hg]; · iexact Hg
    isplitl [Hc]; · iexact Hc
    iexact HO
  iintro ⟨Hr11, Hx11, Ha3, Hi, Hg, Hc, HO⟩
  rw [wp_bind]
  iapply (wp_waitOut c B hB out ring osem 10 2 _) $$ [Hr10 HO]
  · isplitl [Hr10]; · iexact Hr10
    iexact HO
  iintro ⟨Ho10, Hs2, Hb2, HO⟩
  rw [wp_bind]
  iapply (wp_fetchIn c x ring isem 18 2 (v 18)) $$ [Hx18 Hs2 Ha2]
  · isplitl [Hx18]; · iexact Hx18
    isplitl [Hs2]; · iexact Hs2
    iexact Ha2
  iintro Hf18
  rw [wp_bind]
  iapply (wp_chunk1 c B hB ids x g b out ring isem osem fi fg fb 12 4 (v 12)) $$ [Hf12 Ho12 Hb4 Hi Hg Hc HO]
  · isplitl [Hf12]; · iexact Hf12
    isplitl [Ho12]; · iexact Ho12
    isplitl [Hb4]; · iexact Hb4
    isplitl [Hi]; · iexact Hi
    isplitl [Hg]; · iexact Hg
    isplitl [Hc]; · iexact Hc
    iexact HO
  iintro ⟨Hr12, Hx12, Ha4, Hi, Hg, Hc, HO⟩
  rw [wp_bind]
  iapply (wp_waitOut c B hB out ring osem 11 3 _) $$ [Hr11 HO]
  · isplitl [Hr11]; · iexact Hr11
    iexact HO
  iintro ⟨Ho11, Hs3, Hb3, HO⟩
  rw [wp_bind]
  iapply (wp_fetchIn c x ring isem 19 3 (v 19)) $$ [Hx19 Hs3 Ha3]
  · isplitl [Hx19]; · iexact Hx19
    isplitl [Hs3]; · iexact Hs3
    iexact Ha3
  iintro Hf19
  rw [wp_bind]
  iapply (wp_chunk1 c B hB ids x g b out ring isem osem fi fg fb 13 5 (v 13)) $$ [Hf13 Ho13 Hb5 Hi Hg Hc HO]
  · isplitl [Hf13]; · iexact Hf13
    isplitl [Ho13]; · iexact Ho13
    isplitl [Hb5]; · iexact Hb5
    isplitl [Hi]; · iexact Hi
    isplitl [Hg]; · iexact Hg
    isplitl [Hc]; · iexact Hc
    iexact HO
  iintro ⟨Hr13, Hx13, Ha5, Hi, Hg, Hc, HO⟩
  rw [wp_bind]
  iapply (wp_waitOut c B hB out ring osem 12 4 _) $$ [Hr12 HO]
  · isplitl [Hr12]; · iexact Hr12
    iexact HO
  iintro ⟨Ho12, Hs4, Hb4, HO⟩
  rw [wp_bind]
  iapply (wp_fetchIn c x ring isem 20 4 (v 20)) $$ [Hx20 Hs4 Ha4]
  · isplitl [Hx20]; · iexact Hx20
    isplitl [Hs4]; · iexact Hs4
    iexact Ha4
  iintro Hf20
  rw [wp_bind]
  iapply (wp_chunk1 c B hB ids x g b out ring isem osem fi fg fb 14 6 (v 14)) $$ [Hf14 Ho14 Hb6 Hi Hg Hc HO]
  · isplitl [Hf14]; · iexact Hf14
    isplitl [Ho14]; · iexact Ho14
    isplitl [Hb6]; · iexact Hb6
    isplitl [Hi]; · iexact Hi
    isplitl [Hg]; · iexact Hg
    isplitl [Hc]; · iexact Hc
    iexact HO
  iintro ⟨Hr14, Hx14, Ha6, Hi, Hg, Hc, HO⟩
  rw [wp_bind]
  iapply (wp_waitOut c B hB out ring osem 13 5 _) $$ [Hr13 HO]
  · isplitl [Hr13]; · iexact Hr13
    iexact HO
  iintro ⟨Ho13, Hs5, Hb5, HO⟩
  rw [wp_bind]
  iapply (wp_fetchIn c x ring isem 21 5 (v 21)) $$ [Hx21 Hs5 Ha5]
  · isplitl [Hx21]; · iexact Hx21
    isplitl [Hs5]; · iexact Hs5
    iexact Ha5
  iintro Hf21
  rw [wp_bind]
  iapply (wp_chunk1 c B hB ids x g b out ring isem osem fi fg fb 15 7 (v 15)) $$ [Hf15 Ho15 Hb7 Hi Hg Hc HO]
  · isplitl [Hf15]; · iexact Hf15
    isplitl [Ho15]; · iexact Ho15
    isplitl [Hb7]; · iexact Hb7
    isplitl [Hi]; · iexact Hi
    isplitl [Hg]; · iexact Hg
    isplitl [Hc]; · iexact Hc
    iexact HO
  iintro ⟨Hr15, Hx15, Ha7, Hi, Hg, Hc, HO⟩
  rw [wp_bind]
  iapply (wp_waitOut c B hB out ring osem 14 6 _) $$ [Hr14 HO]
  · isplitl [Hr14]; · iexact Hr14
    iexact HO
  iintro ⟨Ho14, Hs6, Hb6, HO⟩
  rw [wp_bind]
  iapply (wp_fetchIn c x ring isem 22 6 (v 22)) $$ [Hx22 Hs6 Ha6]
  · isplitl [Hx22]; · iexact Hx22
    isplitl [Hs6]; · iexact Hs6
    iexact Ha6
  iintro Hf22
  rw [wp_bind]
  iapply (wp_chunk1 c B hB ids x g b out ring isem osem fi fg fb 16 0 (v 16)) $$ [Hf16 Ho16 Hb0 Hi Hg Hc HO]
  · isplitl [Hf16]; · iexact Hf16
    isplitl [Ho16]; · iexact Ho16
    isplitl [Hb0]; · iexact Hb0
    isplitl [Hi]; · iexact Hi
    isplitl [Hg]; · iexact Hg
    isplitl [Hc]; · iexact Hc
    iexact HO
  iintro ⟨Hr16, Hx16, Ha0, Hi, Hg, Hc, HO⟩
  rw [wp_bind]
  iapply (wp_waitOut c B hB out ring osem 15 7 _) $$ [Hr15 HO]
  · isplitl [Hr15]; · iexact Hr15
    iexact HO
  iintro ⟨Ho15, Hs7, Hb7, HO⟩
  rw [wp_bind]
  iapply (wp_fetchIn c x ring isem 23 7 (v 23)) $$ [Hx23 Hs7 Ha7]
  · isplitl [Hx23]; · iexact Hx23
    isplitl [Hs7]; · iexact Hs7
    iexact Ha7
  iintro Hf23
  rw [wp_bind]
  iapply (wp_chunk1 c B hB ids x g b out ring isem osem fi fg fb 17 1 (v 17)) $$ [Hf17 Ho17 Hb1 Hi Hg Hc HO]
  · isplitl [Hf17]; · iexact Hf17
    isplitl [Ho17]; · iexact Ho17
    isplitl [Hb1]; · iexact Hb1
    isplitl [Hi]; · iexact Hi
    isplitl [Hg]; · iexact Hg
    isplitl [Hc]; · iexact Hc
    iexact HO
  iintro ⟨Hr17, Hx17, Ha1, Hi, Hg, Hc, HO⟩
  rw [wp_bind]
  iapply (wp_chunk1 c B hB ids x g b out ring isem osem fi fg fb 18 2 (v 18)) $$ [Hf18 Ho18 Hb2 Hi Hg Hc HO]
  · isplitl [Hf18]; · iexact Hf18
    isplitl [Ho18]; · iexact Ho18
    isplitl [Hb2]; · iexact Hb2
    isplitl [Hi]; · iexact Hi
    isplitl [Hg]; · iexact Hg
    isplitl [Hc]; · iexact Hc
    iexact HO
  iintro ⟨Hr18, Hx18, Ha2, Hi, Hg, Hc, HO⟩
  rw [wp_bind]
  iapply (wp_chunk1 c B hB ids x g b out ring isem osem fi fg fb 19 3 (v 19)) $$ [Hf19 Ho19 Hb3 Hi Hg Hc HO]
  · isplitl [Hf19]; · iexact Hf19
    isplitl [Ho19]; · iexact Ho19
    isplitl [Hb3]; · iexact Hb3
    isplitl [Hi]; · iexact Hi
    isplitl [Hg]; · iexact Hg
    isplitl [Hc]; · iexact Hc
    iexact HO
  iintro ⟨Hr19, Hx19, Ha3, Hi, Hg, Hc, HO⟩
  rw [wp_bind]
  iapply (wp_chunk1 c B hB ids x g b out ring isem osem fi fg fb 20 4 (v 20)) $$ [Hf20 Ho20 Hb4 Hi Hg Hc HO]
  · isplitl [Hf20]; · iexact Hf20
    isplitl [Ho20]; · iexact Ho20
    isplitl [Hb4]; · iexact Hb4
    isplitl [Hi]; · iexact Hi
    isplitl [Hg]; · iexact Hg
    isplitl [Hc]; · iexact Hc
    iexact HO
  iintro ⟨Hr20, Hx20, Ha4, Hi, Hg, Hc, HO⟩
  rw [wp_bind]
  iapply (wp_chunk1 c B hB ids x g b out ring isem osem fi fg fb 21 5 (v 21)) $$ [Hf21 Ho21 Hb5 Hi Hg Hc HO]
  · isplitl [Hf21]; · iexact Hf21
    isplitl [Ho21]; · iexact Ho21
    isplitl [Hb5]; · iexact Hb5
    isplitl [Hi]; · iexact Hi
    isplitl [Hg]; · iexact Hg
    isplitl [Hc]; · iexact Hc
    iexact HO
  iintro ⟨Hr21, Hx21, Ha5, Hi, Hg, Hc, HO⟩
  rw [wp_bind]
  iapply (wp_chunk1 c B hB ids x g b out ring isem osem fi fg fb 22 6 (v 22)) $$ [Hf22 Ho22 Hb6 Hi Hg Hc HO]
  · isplitl [Hf22]; · iexact Hf22
    isplitl [Ho22]; · iexact Ho22
    isplitl [Hb6]; · iexact Hb6
    isplitl [Hi]; · iexact Hi
    isplitl [Hg]; · iexact Hg
    isplitl [Hc]; · iexact Hc
    iexact HO
  iintro ⟨Hr22, Hx22, Ha6, Hi, Hg, Hc, HO⟩
  rw [wp_bind]
  iapply (wp_chunk1 c B hB ids x g b out ring isem osem fi fg fb 23 7 (v 23)) $$ [Hf23 Ho23 Hb7 Hi Hg Hc HO]
  · isplitl [Hf23]; · iexact Hf23
    isplitl [Ho23]; · iexact Ho23
    isplitl [Hb7]; · iexact Hb7
    isplitl [Hi]; · iexact Hi
    isplitl [Hg]; · iexact Hg
    isplitl [Hc]; · iexact Hc
    iexact HO
  iintro ⟨Hr23, Hx23, Ha7, Hi, Hg, Hc, HO⟩
  rw [wp_bind]
  iapply (wp_waitOut c B hB out ring osem 16 0 _) $$ [Hr16 HO]
  · isplitl [Hr16]; · iexact Hr16
    iexact HO
  iintro ⟨Ho16, Hs0, Hb0, HO⟩
  rw [wp_bind]
  iapply (wp_waitOut c B hB out ring osem 17 1 _) $$ [Hr17 HO]
  · isplitl [Hr17]; · iexact Hr17
    iexact HO
  iintro ⟨Ho17, Hs1, Hb1, HO⟩
  rw [wp_bind]
  iapply (wp_waitOut c B hB out ring osem 18 2 _) $$ [Hr18 HO]
  · isplitl [Hr18]; · iexact Hr18
    iexact HO
  iintro ⟨Ho18, Hs2, Hb2, HO⟩
  rw [wp_bind]
  iapply (wp_waitOut c B hB out ring osem 19 3 _) $$ [Hr19 HO]
  · isplitl [Hr19]; · iexact Hr19
    iexact HO
  iintro ⟨Ho19, Hs3, Hb3, HO⟩
  rw [wp_bind]
  iapply (wp_waitOut c B hB out ring osem 20 4 _) $$ [Hr20 HO]
  · isplitl [Hr20]; · iexact Hr20
    iexact HO
  iintro ⟨Ho20, Hs4, Hb4, HO⟩
  rw [wp_bind]
  iapply (wp_waitOut c B hB out ring osem 21 5 _) $$ [Hr21 HO]
  · isplitl [Hr21]; · iexact Hr21
    iexact HO
  iintro ⟨Ho21, Hs5, Hb5, HO⟩
  rw [wp_bind]
  iapply (wp_waitOut c B hB out ring osem 22 6 _) $$ [Hr22 HO]
  · isplitl [Hr22]; · iexact Hr22
    iexact HO
  iintro ⟨Ho22, Hs6, Hb6, HO⟩
  rw [wp_bind]
  iapply (wp_waitOut c B hB out ring osem 23 7 _) $$ [Hr23 HO]
  · isplitl [Hr23]; · iexact Hr23
    iexact HO
  iintro ⟨Ho23, Hs7, Hb7, HO⟩
  simp only [Prog.pure_eq_ret]
  rw [wp_ret]; imodintro
  iapply Hk
  isplitl [Hx0 Hx1 Hx2 Hx3 Hx4 Hx5 Hx6 Hx7 Hx8 Hx9 Hx10 Hx11 Hx12 Hx13 Hx14 Hx15 Hx16 Hx17 Hx18 Hx19 Hx20 Hx21 Hx22 Hx23]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    isplitl [Hx15]; · iexact Hx15
    isplitl [Hx16]; · iexact Hx16
    isplitl [Hx17]; · iexact Hx17
    isplitl [Hx18]; · iexact Hx18
    isplitl [Hx19]; · iexact Hx19
    isplitl [Hx20]; · iexact Hx20
    isplitl [Hx21]; · iexact Hx21
    isplitl [Hx22]; · iexact Hx22
    iexact Hx23
  isplitl [Ho0 Ho1 Ho2 Ho3 Ho4 Ho5 Ho6 Ho7 Ho8 Ho9 Ho10 Ho11 Ho12 Ho13 Ho14 Ho15 Ho16 Ho17 Ho18 Ho19 Ho20 Ho21 Ho22 Ho23]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    isplitl [Ho19]; · iexact Ho19
    isplitl [Ho20]; · iexact Ho20
    isplitl [Ho21]; · iexact Ho21
    isplitl [Ho22]; · iexact Ho22
    iexact Ho23
  isplitl [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  isplitl [Ha0 Ha1 Ha2 Ha3 Ha4 Ha5 Ha6 Ha7]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  isplitl [Hb0 Hb1 Hb2 Hb3 Hb4 Hb5 Hb6 Hb7]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7
  isplitl [Hi]; · iexact Hi
  isplitl [Hg]; · iexact Hg
  isplitl [Hc]; · iexact Hc
  iexact HO

end Cert.Proof.Film
-- ==== Proof.Arrays.lean ====
/-
  A buffer cut into windows and put together again: an array into chunks of rows, the ring into its slots. What is known
  of a window is what it reads; what is known of the whole afterwards is what each window reads, and that the rest is
  as it was.
-/
module

public import proofs.«01_k».proof.Proof.Bodies
public import Idealize.ShloMosaic.Lib.ViewIndex

@[expose] public section

noncomputable section

namespace Cert.Proof.Film

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

section Family
variable {ℓ : Loc nD τ sig} {n : ℕ} {X : Type} (W : Fin n → Finset (Idx ℓ)) (R : Fin n → Buf (Elt F) ℓ → X)
  (hW : ∀ a b, a ≠ b → Disjoint (W a) (W b)) (hR : ∀ t f g, R t f = R t g ↔ ∀ i ∈ W t, f i = g i)

/-- Window `t`, held where it reads `v`. -/
def winHas (t : Fin n) (v : X) : sProp 𝕄 := iprop(∃ f : Buf (Elt F) ℓ, ⌜R t f = v⌝ ∗ ℓ ↦[W t]{fullShare} f)

theorem windows_known (f : Buf (Elt F) ℓ) :
    iprop(bigSep Finset.univ (fun t => ℓ ↦[W t]{fullShare} f)) ⊢ (iprop(bigSep Finset.univ (fun t => winHas W R t (R t f))) : sProp 𝕄) :=
  bigSep_mono fun t _ => show iprop(ℓ ↦[W t]{fullShare} f) ⊢ (iprop(winHas W R t (R t f)) : sProp 𝕄) from by
    unfold winHas
    iintro H
    iexists f
    isplitr; · ipureintro; rfl
    iexact H

include hW in
/-- A buffer held whole is its windows and the rest. -/
theorem windows_split (f : Buf (Elt F) ℓ) :
    (ℓ ↦{fullShare} f) ⊢ (iprop(bigSep Finset.univ (fun t => winHas W R t (R t f))
      ∗ ℓ ↦[Finset.univ \ Finset.univ.biUnion W]{fullShare} f) : sProp 𝕄) := by
  classical
  exact (pointsTo_split_subset (Finset.subset_univ (Finset.univ.biUnion W))).1.trans
    (BIClass.sep_mono ((Entails.of_eq (pointsTo_biUnion Finset.univ W (fun a _ b _ h => hW a b h))).trans (windows_known W R f)) (Entails.refl _))

include hW hR in
/-- Windows and the rest are a buffer held whole, each window as known and the rest as it was. -/
theorem windows_join (v : Fin n → X) (f₀ : Buf (Elt F) ℓ) :
    iprop(bigSep Finset.univ (fun t => winHas W R t (v t)) ∗ ℓ ↦[Finset.univ \ Finset.univ.biUnion W]{fullShare} f₀)
      ⊢ (iprop(∃ g : Buf (Elt F) ℓ, ⌜(∀ t, R t g = v t) ∧ ∀ i, (∀ t, i ∉ W t) → g i = f₀ i⌝ ∗ ℓ ↦{fullShare} g) : sProp 𝕄) := by
  classical
  unfold winHas
  iintro ⟨H, Hr⟩
  haveI : Nonempty (Buf (Elt F) ℓ) := ⟨f₀⟩
  ihave H := (bigSep_exists_pi (Finset.univ : Finset (Fin n)) (fun t (f : Buf (Elt F) ℓ) => iprop(⌜R t f = v t⌝ ∗ (ℓ ↦[W t]{fullShare} f : sProp 𝕄)))) $$ H
  icases H with ⟨%fs, H⟩
  ihave H := (bigSep_pure_sep Finset.univ (fun t => R t (fs t) = v t) (fun t => (ℓ ↦[W t]{fullShare} fs t : sProp 𝕄))) $$ H
  icases H with ⟨%hfs, H⟩
  ihave H := (pointsTo_biUnion_join Finset.univ W fs f₀ (fun a _ b _ h => hW a b h)) $$ H
  icases H with ⟨%g, %hg, H⟩
  ihave H := (pointsTo_join_subset (f := f₀) (g := g) (Finset.subset_univ (Finset.univ.biUnion W))) $$ [H Hr]
  · isplitl [H]; · iexact H
    iexact Hr
  iexists ((Finset.univ.biUnion W).piecewise g f₀)
  isplitr
  · ipureintro
    refine ⟨fun t => ?_, fun i hi => Finset.piecewise_eq_of_notMem _ _ _ (by simpa using hi)⟩
    rw [← hfs t (Finset.mem_univ _)]
    refine (hR t _ _).2 fun i hi => ?_
    rw [Finset.piecewise_eq_of_mem _ _ _ (Finset.mem_biUnion.2 ⟨t, Finset.mem_univ _, hi⟩)]
    exact hg t (Finset.mem_univ _) i hi
  · iexact H

include hW hR in
/-- Windows put back as they were make the buffer as it was. -/
theorem windows_restore (f : Buf (Elt F) ℓ) :
    iprop(bigSep Finset.univ (fun t => winHas W R t (R t f)) ∗ ℓ ↦[Finset.univ \ Finset.univ.biUnion W]{fullShare} f)
      ⊢ (ℓ ↦{fullShare} f : sProp 𝕄) := by
  iintro H
  ihave H := (windows_join W R hW hR (fun t => R t f) f) $$ H
  icases H with ⟨%g, %hg, H⟩
  have : g = f := by
    funext i
    by_cases h : ∃ t, i ∈ W t
    · obtain ⟨t, ht⟩ := h
      exact (hR t g f).1 (hg.1 t) i ht
    · exact hg.2 i fun t ht => h ⟨t, ht⟩
  subst this
  iexact H

end Family

/-- Two contents read alike through a rectangle exactly when they agree under it. -/
theorem read_eq_iff {k : Kind} {sp : Space} {sh : Shape} {e : EltTy} (v : View sig k sp sh e) (f g : v.ty.Contents (Elt F)) :
    v.read (Elt F) f = v.read (Elt F) g ↔ ∀ i ∈ v.set, f i = g i := by
  refine ⟨fun h i hi => ?_, fun h => View.read_congr h⟩
  obtain ⟨x, -, rfl⟩ := Finset.mem_map.mp hi
  exact View.eq_of_read_eq (congrFun h x)

theorem chRect_disjoint {i j : Fin 32} (h : i ≠ j) : Disjoint (chRect i).set (chRect j).set := by
  by_cases hb : i.val / 8 = j.val / 8
  · refine Rect.unit_disjoint (1 : Fin 3) ?_
    show 512 * (i.val % 8) + 512 ≤ 512 * (j.val % 8) ∨ 512 * (j.val % 8) + 512 ≤ 512 * (i.val % 8)
    have : i.val ≠ j.val := fun e => h (Fin.ext e)
    omega
  · refine Rect.unit_disjoint (0 : Fin 3) ?_
    show i.val / 8 + 1 ≤ j.val / 8 ∨ j.val / 8 + 1 ≤ i.val / 8
    omega

theorem slRect_disjoint {i j : Fin 8} (h : i ≠ j) : Disjoint (slRect i).set (slRect j).set := by
  refine Rect.unit_disjoint (0 : Fin 3) ?_
  show i.val + 1 ≤ j.val ∨ j.val + 1 ≤ i.val
  have : i.val ≠ j.val := fun e => h (Fin.ext e)
  omega

section Chunks
variable (c : Dev nD) (m : Memref sig .tc .hbm S4x4096x1024 .f32) {n : ℕ} (e : Fin n → Fin 32) (he : Function.Injective e)

/-- What chunk `j` of `f` reads. -/
abbrev rows (f : Buf (Elt F) ((c.tc : Thread nD τ).loc m.view.ref)) (j : Fin 32) : Vec F S1x512x1024 .f32 :=
  (m.access (chRect j)).read (Elt F) f

/-- The elements of chunks `e`. -/
abbrev chSet (t : Fin n) : Finset (Idx ((c.tc : Thread nD τ).loc m.view.ref)) := (chWin m (e t)).view.set

theorem chWin_set (j : Fin 32) : (chWin m j).view.set = (m.access (chRect j)).set := (m.access (chRect j)).set_reshape _

theorem chWin_disjoint {i j : Fin 32} (h : i ≠ j) : Disjoint (chWin m i).view.set (chWin m j).view.set := by
  rw [chWin_set, chWin_set]
  exact View.disjoint_slice (chRect_disjoint h)

include he in
theorem chSet_disjoint (a b : Fin n) (h : a ≠ b) : Disjoint (chSet c m e a) (chSet c m e b) := by
  exact chWin_disjoint m fun hh => h (he hh)

theorem rows_iff (t : Fin n) (f g : Buf (Elt F) ((c.tc : Thread nD τ).loc m.view.ref)) :
    rows c m f (e t) = rows c m g (e t) ↔ ∀ i ∈ chSet c m e t, f i = g i := by
  unfold chSet
  rw [chWin_set]
  exact read_eq_iff (m.access (chRect (e t))) f g

/-- What is left of the array beside the chunks `e`. -/
abbrev chRest (f : Buf (Elt F) ((c.tc : Thread nD τ).loc m.view.ref)) : sProp 𝕄 :=
  ((c.tc : Thread nD τ).loc m.view.ref) ↦[Finset.univ \ Finset.univ.biUnion (chSet c m e)]{fullShare} f

include he in
theorem chunks_split (f : Buf (Elt F) ((c.tc : Thread nD τ).loc m.view.ref)) :
    (((c.tc : Thread nD τ).loc m.view.ref) ↦{fullShare} f)
      ⊢ (iprop(bigSep Finset.univ (fun t => chHas c m (e t) (rows c m f (e t))) ∗ chRest c m e f) : sProp 𝕄) :=
  windows_split (chSet c m e) (fun t f => rows c m f (e t)) (chSet_disjoint c m e he) f

include he in
theorem chunks_restore (f : Buf (Elt F) ((c.tc : Thread nD τ).loc m.view.ref)) :
    (iprop(bigSep Finset.univ (fun t => chHas c m (e t) (rows c m f (e t))) ∗ chRest c m e f) : sProp 𝕄)
      ⊢ (((c.tc : Thread nD τ).loc m.view.ref) ↦{fullShare} f) :=
  windows_restore (chSet c m e) (fun t f => rows c m f (e t)) (chSet_disjoint c m e he) (rows_iff c m e) f

include he in
theorem chunks_join (v : Fin n → Vec F S1x512x1024 .f32) (f : Buf (Elt F) ((c.tc : Thread nD τ).loc m.view.ref)) :
    (iprop(bigSep Finset.univ (fun t => chHas c m (e t) (v t)) ∗ chRest c m e f) : sProp 𝕄)
      ⊢ iprop(∃ g : Buf (Elt F) ((c.tc : Thread nD τ).loc m.view.ref),
          ⌜(∀ t, rows c m g (e t) = v t) ∧ ∀ j, (∀ t, e t ≠ j) → rows c m g j = rows c m f j⌝
          ∗ ((c.tc : Thread nD τ).loc m.view.ref) ↦{fullShare} g) := by
  refine (show _ ⊢ _ from windows_join (chSet c m e) (fun t f => rows c m f (e t)) (chSet_disjoint c m e he) (rows_iff c m e) v f).trans ?_
  iintro H
  icases H with ⟨%g, %hg, H⟩
  iexists g
  isplitr
  · ipureintro
    refine ⟨hg.1, fun j hj => ?_⟩
    refine (rows_iff c m (fun _ : Fin 1 => j) 0 g f).2 fun i hi => hg.2 i fun t ht => ?_
    have hd : Disjoint (chWin m (e t)).view.set (chWin m j).view.set := chWin_disjoint m (hj t)
    exact Finset.disjoint_left.1 hd ht hi
  iexact H

end Chunks

section Slots
variable (c : Dev nD) (ring : Memref sig .tc .vmem S8x512x1024 .f32)

abbrev slSet (s : Fin 8) : Finset (Idx ((c.tc : Thread nD τ).loc ring.view.ref)) := (slWin ring s).view.set
theorem slWin_set (s : Fin 8) : (slWin ring s).view.set = (ring.access (slRect s)).set := (ring.access (slRect s)).set_reshape _
theorem slSet_disjoint (a b : Fin 8) (h : a ≠ b) : Disjoint (slSet c ring a) (slSet c ring b) := by
  unfold slSet
  rw [slWin_set, slWin_set]
  exact View.disjoint_slice (slRect_disjoint h)
theorem slots_iff (s : Fin 8) (f g : Buf (Elt F) ((c.tc : Thread nD τ).loc ring.view.ref)) :
    (ring.access (slRect s)).read (Elt F) f = (ring.access (slRect s)).read (Elt F) g ↔ ∀ i ∈ slSet c ring s, f i = g i := by
  unfold slSet
  rw [slWin_set]
  exact read_eq_iff (ring.access (slRect s)) f g

abbrev slRest (f : Buf (Elt F) ((c.tc : Thread nD τ).loc ring.view.ref)) : sProp 𝕄 :=
  ((c.tc : Thread nD τ).loc ring.view.ref) ↦[Finset.univ \ Finset.univ.biUnion (slSet c ring)]{fullShare} f

theorem slots_split (f : Buf (Elt F) ((c.tc : Thread nD τ).loc ring.view.ref)) :
    (((c.tc : Thread nD τ).loc ring.view.ref) ↦{fullShare} f)
      ⊢ (iprop(bigSep Finset.univ (fun s => slAny c ring s) ∗ slRest c ring f) : sProp 𝕄) := by
  refine (windows_split (slSet c ring) (X := Vec F S1x512x1024 .f32) (fun s f => ((ring.access (slRect s)).read (Elt F) f : Vec F S1x512x1024 .f32)) (slSet_disjoint c ring) f).trans ?_
  iintro ⟨H, Hr⟩
  have hm : (bigSep Finset.univ fun s => winHas (slSet c ring) (fun s f => ((ring.access (slRect s)).read (Elt F) f : Vec F S1x512x1024 .f32)) s ((ring.access (slRect s)).read (Elt F) f))
      ⊢ (bigSep Finset.univ fun s => slAny c ring s : sProp 𝕄) :=
    bigSep_mono fun s _ => show slHas c ring s ((ring.access (slRect s)).read (Elt F) f) ⊢ (slAny c ring s : sProp 𝕄) from by
      unfold slAny
      iintro H
      iexists ((ring.access (slRect s)).read (Elt F) f)
      iexact H
  isplitl [H]
  · ihave H := hm $$ H
    iexact H
  · iexact Hr

theorem slots_join (f : Buf (Elt F) ((c.tc : Thread nD τ).loc ring.view.ref)) :
    (iprop(bigSep Finset.univ (fun s => slAny c ring s) ∗ slRest c ring f) : sProp 𝕄)
      ⊢ iprop(∃ g : Buf (Elt F) ((c.tc : Thread nD τ).loc ring.view.ref), ((c.tc : Thread nD τ).loc ring.view.ref) ↦{fullShare} g) := by
  unfold slAny
  iintro ⟨H, Hr⟩
  haveI : Nonempty (Vec F S1x512x1024 .f32) := ⟨(ring.access (slRect 0)).read (Elt F) f⟩
  ihave H := (bigSep_exists_pi (Finset.univ : Finset (Fin 8)) (fun s (v : Vec F S1x512x1024 .f32) => slHas c ring s v)) $$ H
  icases H with ⟨%v, H⟩
  ihave H := (windows_join (slSet c ring) (fun s f => ((ring.access (slRect s)).read (Elt F) f : Vec F S1x512x1024 .f32)) (slSet_disjoint c ring) (slots_iff c ring) v f) $$ [H Hr]
  · isplitl [H]; · iexact H
    iexact Hr
  icases H with ⟨%g, -, H⟩
  iexists g
  iexact H

end Slots

end Cert.Proof.Film
-- ==== Proof.Wholes.lean ====
/-
  The two dense kernels from whole buffers: the array's chunks and the ring's slots split off, the kernel run, and all put
  together again.
-/
module

public import proofs.«01_k».proof.Proof.Arrays

@[expose] public section

noncomputable section

namespace Cert.Proof.Film

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem lo_inj : Function.Injective lo := by decide
theorem hi_inj : Function.Injective hi := by decide

theorem chAny_of_has (c : Dev nD) (m : Memref sig .tc .hbm S4x4096x1024 .f32) {n : ℕ} (e : Fin n → Fin 32) (v : Fin n → Vec F S1x512x1024 .f32) :
    bigSep Finset.univ (fun t => chHas c m (e t) (v t)) ⊢ (bigSep Finset.univ (fun t => chAny c m (e t)) : sProp 𝕄) :=
  bigSep_mono fun t _ => show chHas c m (e t) (v t) ⊢ (chAny c m (e t) : sProp 𝕄) from by
    unfold chAny
    iintro H
    iexists (v t)
    iexact H

variable (c : Dev nD) (B : Set (SemLoc sig × HIx 1)) (hB : ∀ sm, (sm, none) ∈ B)

local notation "WP" => wp frame (wpE (defs₀ (F := F)) 𝒱₀ (c.tc : Thread nD τ) none) Set.univ

variable (ids : Memref sig .tc .smem S4 .i32) (x : Memref sig .tc .hbm S4x4096x1024 .f32) (g b : Memref sig .tc .vmem S4x1024 .f32)
  (out : Memref sig .tc .hbm S4x4096x1024 .f32) (ring : Memref sig .tc .vmem S8x512x1024 .f32) (isem osem : DmaSems sig S8)
  (fi : Buf (Elt F) ((c.tc : Thread nD τ).loc ids.view.ref)) (fg : Buf (Elt F) ((c.tc : Thread nD τ).loc g.view.ref))
  (fb : Buf (Elt F) ((c.tc : Thread nD τ).loc b.view.ref)) (fx : Buf (Elt F) ((c.tc : Thread nD τ).loc x.view.ref))
  (fo : Buf (Elt F) ((c.tc : Thread nD τ).loc out.view.ref)) (fr : Buf (Elt F) ((c.tc : Thread nD τ).loc ring.view.ref))

/-- What the first dense kernel leaves of its result: its own chunks made, the others as they were. -/
def After1 (f : Buf (Elt F) ((c.tc : Thread nD τ).loc out.view.ref)) : Prop :=
  (∀ t, rows c out f (lo t) = made1 c ids g b fi fg fb (lo t) (rows c x fx (lo t)))
    ∧ ∀ j, (∀ t, lo t ≠ j) → rows c out f j = rows c out fo j
/-- What the second leaves. -/
def After2 (f : Buf (Elt F) ((c.tc : Thread nD τ).loc out.view.ref)) : Prop :=
  (∀ t, rows c out f (hi t) = made2 c g b fg fb (hi t) (rows c x fx (hi t)))
    ∧ ∀ j, (∀ t, hi t ≠ j) → rows c out f j = rows c out fo j

abbrev sems (sm : DmaSems sig S8) : sProp 𝕄 := bigSep Finset.univ (fun s : Fin 8 => smZ c sm s)

include hB in
theorem wp_whole1 {Q : PUnit → sProp 𝕄} :
    iprop(((c.tc : Thread nD τ).loc x.view.ref ↦{fullShare} fx) ∗ ((c.tc : Thread nD τ).loc out.view.ref ↦{fullShare} fo)
        ∗ ((c.tc : Thread nD τ).loc ring.view.ref ↦{fullShare} fr) ∗ sems c isem ∗ sems c osem ∗ blk c ids fi ∗ blk c g fg ∗ blk c b fb ∗ free c B)
      ⊢ iprop((iprop(((c.tc : Thread nD τ).loc x.view.ref ↦{fullShare} fx)
          ∗ (∃ f, ⌜After1 c ids x g b out fi fg fb fx fo f⌝ ∗ (c.tc : Thread nD τ).loc out.view.ref ↦{fullShare} f)
          ∗ (∃ f : Buf (Elt F) ((c.tc : Thread nD τ).loc ring.view.ref), (c.tc : Thread nD τ).loc ring.view.ref ↦{fullShare} f)
          ∗ sems c isem ∗ sems c osem ∗ blk c ids fi ∗ blk c g fg ∗ blk c b fb ∗ free c B) -∗ Q ⟨⟩)
        -∗ WP (film1 ids x g b out ring isem osem) Q) := by
  iintro ⟨Hx, Ho, Hr, Hi, Hj, Ha, Hg, Hb, HO⟩ Hk
  ihave Hx := (chunks_split c x lo lo_inj fx) $$ Hx
  icases Hx with ⟨Hx, Hxr⟩
  ihave Ho := (chunks_split c out lo lo_inj fo) $$ Ho
  icases Ho with ⟨Ho, Hor⟩
  ihave Hr := (slots_split c ring fr) $$ Hr
  icases Hr with ⟨Hr, Hrr⟩
  iapply (wp_film1 c B hB ids x g b out ring isem osem fi fg fb (fun j => rows c x fx j)) $$ [Hx Ho Hr Hi Hj Ha Hg Hb HO]
  · isplitl [Hx]; · iexact Hx
    isplitl [Ho]
    · iapply (chAny_of_has c out lo (fun t => rows c out fo (lo t))); iexact Ho
    isplitl [Hr]; · iexact Hr
    isplitl [Hi]; · iexact Hi
    isplitl [Hj]; · iexact Hj
    isplitl [Ha]; · iexact Ha
    isplitl [Hg]; · iexact Hg
    isplitl [Hb]; · iexact Hb
    iexact HO
  iintro ⟨Hx, Ho, Hr, Hi, Hj, Ha, Hg, Hb, HO⟩
  iapply Hk
  isplitl [Hx Hxr]
  · iapply (chunks_restore c x lo lo_inj fx)
    isplitl [Hx]; · iexact Hx
    iexact Hxr
  isplitl [Ho Hor]
  · ihave H := (chunks_join c out lo lo_inj (fun t => made1 c ids g b fi fg fb (lo t) (rows c x fx (lo t))) fo) $$ [Ho Hor]
    · isplitl [Ho]; · iexact Ho
      iexact Hor
    icases H with ⟨%f, %hf, H⟩
    iexists f
    isplitr; · ipureintro; exact hf
    iexact H
  isplitl [Hr Hrr]
  · iapply (slots_join c ring fr)
    isplitl [Hr]; · iexact Hr
    iexact Hrr
  isplitl [Hi]; · iexact Hi
  isplitl [Hj]; · iexact Hj
  isplitl [Ha]; · iexact Ha
  isplitl [Hg]; · iexact Hg
  isplitl [Hb]; · iexact Hb
  iexact HO

include hB in
theorem wp_whole2 {Q : PUnit → sProp 𝕄} :
    iprop(((c.tc : Thread nD τ).loc x.view.ref ↦{fullShare} fx) ∗ ((c.tc : Thread nD τ).loc out.view.ref ↦{fullShare} fo)
        ∗ ((c.tc : Thread nD τ).loc ring.view.ref ↦{fullShare} fr) ∗ sems c isem ∗ sems c osem ∗ blk c g fg ∗ blk c b fb ∗ free c B)
      ⊢ iprop((iprop(((c.tc : Thread nD τ).loc x.view.ref ↦{fullShare} fx)
          ∗ (∃ f, ⌜After2 c x g b out fg fb fx fo f⌝ ∗ (c.tc : Thread nD τ).loc out.view.ref ↦{fullShare} f)
          ∗ (∃ f : Buf (Elt F) ((c.tc : Thread nD τ).loc ring.view.ref), (c.tc : Thread nD τ).loc ring.view.ref ↦{fullShare} f)
          ∗ sems c isem ∗ sems c osem ∗ blk c g fg ∗ blk c b fb ∗ free c B) -∗ Q ⟨⟩)
        -∗ WP (film2 x g b out ring isem osem) Q) := by
  iintro ⟨Hx, Ho, Hr, Hi, Hj, Hg, Hb, HO⟩ Hk
  ihave Hx := (chunks_split c x hi hi_inj fx) $$ Hx
  icases Hx with ⟨Hx, Hxr⟩
  ihave Ho := (chunks_split c out hi hi_inj fo) $$ Ho
  icases Ho with ⟨Ho, Hor⟩
  ihave Hr := (slots_split c ring fr) $$ Hr
  icases Hr with ⟨Hr, Hrr⟩
  iapply (wp_film2 c B hB x g b out ring isem osem fg fb (fun j => rows c x fx j)) $$ [Hx Ho Hr Hi Hj Hg Hb HO]
  · isplitl [Hx]; · iexact Hx
    isplitl [Ho]
    · iapply (chAny_of_has c out hi (fun t => rows c out fo (hi t))); iexact Ho
    isplitl [Hr]; · iexact Hr
    isplitl [Hi]; · iexact Hi
    isplitl [Hj]; · iexact Hj
    isplitl [Hg]; · iexact Hg
    isplitl [Hb]; · iexact Hb
    iexact HO
  iintro ⟨Hx, Ho, Hr, Hi, Hj, Hg, Hb, HO⟩
  iapply Hk
  isplitl [Hx Hxr]
  · iapply (chunks_restore c x hi hi_inj fx)
    isplitl [Hx]; · iexact Hx
    iexact Hxr
  isplitl [Ho Hor]
  · ihave H := (chunks_join c out hi hi_inj (fun t => made2 c g b fg fb (hi t) (rows c x fx (hi t))) fo) $$ [Ho Hor]
    · isplitl [Ho]; · iexact Ho
      iexact Hor
    icases H with ⟨%f, %hf, H⟩
    iexists f
    isplitr; · ipureintro; exact hf
    iexact H
  isplitl [Hr Hrr]
  · iapply (slots_join c ring fr)
    isplitl [Hr]; · iexact Hr
    iexact Hrr
  isplitl [Hi]; · iexact Hi
  isplitl [Hj]; · iexact Hj
  isplitl [Hg]; · iexact Hg
  isplitl [Hb]; · iexact Hb
  iexact HO

end Cert.Proof.Film
-- ==== Proof.First.lean ====
/-
  The first dense kernel as a region of the host program: entered holding its three small operands, `x` and the result,
  left with them back and its share of the result made.
-/
module

public import proofs.«01_k».proof.Proof.Wholes

@[expose] public section

noncomputable section

namespace Cert.Proof.Film

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

abbrev adm : (p : Fin 2) → (pcfgs (F := F) p).Adm := fun p => (cfgs p).toPCfg_adm

/-- A buffer's contents on each device. -/
abbrev Bf (b : Ref sig .tc) : Type := (c : Dev nD) → Buf (Elt F) ((c.tc : Thread nD τ).loc b)

/-- Buffer `b` of device `c` held whole. -/
abbrev pt (c : Dev nD) (b : Ref sig .tc) (f : Buf (Elt F) ((c.tc : Thread nD τ).loc b)) : sProp 𝕄 := (c.tc : Thread nD τ).loc b ↦{fullShare} f

/-- Data for a pipeline that a region does not run. -/
def junkDat {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

theorem junk_share (c : Dev nD) (r : Ref sig .tc) (f : Buf (Elt F) ((c.tc : Thread nD τ).loc r)) :
    blk c (Memref.whole r) f = pt c r f := by
  unfold blk pt
  simp only [Memref.view_whole, View.set_whole]

section First
variable (B : Dev nD → Set (SemLoc sig × HIx 1)) (hB : ∀ c sm, (sm, none) ∈ B c)
  (fi : Bf (F := F) main_arg1) (fg : Bf (F := F) main_arg2) (fb : Bf (F := F) main_arg3) (fx : Bf (F := F) main_arg0) (fo : Bf (F := F) main_v1)

/-- The small operands as the fetch stages them. -/
abbrev in1_0 (c : Dev nD) : (cfg1.win 0).block.Idx → Elt F (cfg1.win 0).elt := ((cfg1.win 0).blk t1_0).view.read (Elt F) (fi c)
abbrev in1_1 (c : Dev nD) : (cfg1.win 1).block.Idx → Elt F (cfg1.win 1).elt := ((cfg1.win 1).blk t1_0).view.read (Elt F) (fg c)
abbrev in1_2 (c : Dev nD) : (cfg1.win 2).block.Idx → Elt F (cfg1.win 2).elt := ((cfg1.win 2).blk t1_0).view.read (Elt F) (fb c)

/-- The region's own semaphores: one for each slot on the way in, one for each on the way out. -/
abbrev osem1 : Fin 8 ⊕ Fin 8 → SemLoc sig := Sum.elim (fun s => .dma (slSem cc1_scratch1 s)) (fun s => .dma (slSem cc1_scratch2 s))

theorem ownSems1 (c : Dev nD) : (Pipeline.ownSems0 osem1 c : sProp 𝕄) = iprop(sems c cc1_scratch1 ∗ sems c cc1_scratch2) :=
  BI.bigSep_univ_sum (fun k : Fin 8 ⊕ Fin 8 => (semVal ((c.tc : Thread nD τ), osem1 k) 0 : sProp 𝕄))

abbrev Done1 (c : Dev nD) (f : Buf (Elt F) ((c.tc : Thread nD τ).loc main_v1)) : Prop :=
  After1 c (Memref.whole cc1_stg0_0) (Memref.whole main_arg0) (Memref.whole cc1_stg1_0) (Memref.whole cc1_stg2_0) (Memref.whole main_v1)
    (in1_0 fi c) (in1_1 fg c) (in1_2 fb c) (fx c) (fo c) f

abbrev rest1 (c : Dev nD) : sProp 𝕄 := Pipeline.scopedRest (Ix := HIx 1) (Name := ℕ) (U := UU) (Lvl := ℕ) (Val := Elt F) spec1 c

def Φin1 (c : Dev nD) : sProp 𝕄 := iprop(pt c main_arg0 (fx c) ∗ pt c main_v1 (fo c) ∗ (sems c cc1_scratch1 ∗ sems c cc1_scratch2) ∗ rest1 c)
def Φout1 (c : Dev nD) : sProp 𝕄 := iprop(pt c main_arg0 (fx c) ∗ (∃ f, ⌜Done1 fi fg fb fx fo c f⌝ ∗ pt c main_v1 f)
  ∗ (sems c cc1_scratch1 ∗ sems c cc1_scratch2) ∗ rest1 c)

def dat1 (c : Dev nD) : Dat τ (Elt F) (HIx 1) ℕ UU ℕ cfg1 c where
  A w := match w with
    | ⟨0, _⟩ => fi c
    | ⟨1, _⟩ => fg c
    | ⟨2, _⟩ => fb c
  after w _ := match w with
    | ⟨0, _⟩ => in1_0 fi c
    | ⟨1, _⟩ => in1_1 fg c
    | ⟨2, _⟩ => in1_2 fb c
  Φ t := if t.val = 0 then Φin1 fx fo c else Φout1 fi fg fb fx fo c
  q _ := fullShare
  owed _ := 0
  recorded _ := B c

def pdats1 : (p : Fin 2) → (c : Dev nD) → Dat τ (Elt F) (HIx 1) ℕ UU ℕ (Pipeline.pin (pcfgs (F := F)) adm p) c
  | ⟨0, _⟩ => fun c => dat1 B fi fg fb fx fo c
  | ⟨1, _⟩ => fun c => junkDat c

theorem before1_0 (c : Dev nD) (d : (cfg1.win 0).block.Idx → Elt F (cfg1.win 0).elt) : (dat1 B fi fg fb fx fo c).before 0 t1_0 d = in1_0 fi c := by
  unfold Dat.before; rw [if_pos (by decide)]; rfl
theorem before1_1 (c : Dev nD) (d : (cfg1.win 1).block.Idx → Elt F (cfg1.win 1).elt) : (dat1 B fi fg fb fx fo c).before 1 t1_0 d = in1_1 fg c := by
  unfold Dat.before; rw [if_pos (by decide)]; rfl
theorem before1_2 (c : Dev nD) (d : (cfg1.win 2).block.Idx → Elt F (cfg1.win 2).elt) : (dat1 B fi fg fb fx fo c).before 2 t1_0 d = in1_2 fb c := by
  unfold Dat.before; rw [if_pos (by decide)]; rfl

include hB in
theorem bound_eq {cfg : Pipeline.Cfg sig Λ₀} (c : Dev nD) (dat : Dat τ (Elt F) (HIx 1) ℕ UU ℕ cfg c) (t : Fin (cfg.N + 1))
    (h : dat.recorded t = B c) : dat.bound none t = B c := by
  unfold Dat.bound
  rw [h]
  refine Set.union_eq_self_of_subset_right ?_
  rintro _ ⟨w, s, rfl⟩
  exact hB c _

include hB in
theorem owesAt_eq {cfg : Pipeline.Cfg sig Λ₀} (c : Dev nD) (dat : Dat τ (Elt F) (HIx 1) ℕ UU ℕ cfg c) (t : Fin (cfg.N + 1))
    (h : dat.recorded t = B c) (ho : dat.owed t = 0) : (dat.owesAt none t : sProp 𝕄) = free c (B c) := by
  unfold Dat.owesAt
  rw [bound_eq B hB c dat t h, ho]

include hB in
theorem body1 (c : Dev nD) : BodyObligation (dat1 B fi fg fb fx fo c) (defs₀ (F := F)) 𝒱₀ none Set.univ := fun t => by
  obtain rfl := fin_N1 t
  rw [bigSep_W1, bigSep_W1]
  simp only [owns_whole_eq]
  rw [show (dat1 B fi fg fb fx fo c).Φ t1_0.castSucc = Φin1 fx fo c from rfl, show (dat1 B fi fg fb fx fo c).Φ t1_0.succ = Φout1 fi fg fb fx fo c from rfl,
    owesAt_eq B hB c (dat1 B fi fg fb fx fo c) t1_0.succ rfl rfl, owesAt_eq B hB c (dat1 B fi fg fb fx fo c) t1_0.castSucc rfl rfl]
  unfold Φin1 Φout1 rest1
  rw [scopedRest1_eq]
  iintro ⟨⟨Hx, Ho, ⟨Hi, Hj⟩, ⟨%fr, Hr⟩, Hr2⟩, HO, ⟨%d0, %f0, %hf0, H0⟩, ⟨%d1, %f1, %hf1, H1⟩, ⟨%d2, %f2, %hf2, H2⟩⟩
  rw [before1_0] at hf0
  rw [before1_1] at hf1
  rw [before1_2] at hf2
  subst hf0 hf1 hf2
  iapply (wp_whole1 c (B c) (hB c) (Memref.whole cc1_stg0_0) (Memref.whole main_arg0) (Memref.whole cc1_stg1_0) (Memref.whole cc1_stg2_0) (Memref.whole main_v1)
    (Memref.whole cc1_scratch0) cc1_scratch1 cc1_scratch2 (in1_0 fi c) (in1_1 fg c) (in1_2 fb c) (fx c) (fo c) fr) $$ [Hx Ho Hr Hi Hj HO H0 H1 H2]
  · isplitl [Hx]; · iexact Hx
    isplitl [Ho]; · iexact Ho
    isplitl [Hr]; · iexact Hr
    isplitl [Hi]; · iexact Hi
    isplitl [Hj]; · iexact Hj
    isplitl [H0]; · rw [junk_share]; iexact H0
    isplitl [H1]; · rw [junk_share]; iexact H1
    isplitl [H2]; · rw [junk_share]; iexact H2
    iexact HO
  rw [junk_share, junk_share, junk_share]
  iintro ⟨Hx, Ho, Hr, Hi, Hj, H0, H1, H2, HO⟩
  isplitl [Hx Ho Hr Hi Hj Hr2]
  · isplitl [Hx]; · iexact Hx
    isplitl [Ho]; · iexact Ho
    isplitl [Hi Hj]
    · isplitl [Hi]; · iexact Hi
      iexact Hj
    isplitl [Hr]; · iexact Hr
    iexact Hr2
  isplitl [HO]; · iexact HO
  isplitl [H0]; · iexists _; isplitr; swap; (· iexact H0); ipureintro; dsimp only [dat1]
  isplitl [H1]; · iexists _; isplitr; swap; (· iexact H1); ipureintro; dsimp only [dat1]
  iexists _; isplitr; swap; (· iexact H2); ipureintro; dsimp only [dat1]

set_option backward.isDefEq.respectTransparency.types false in
/-- The region. -/
def reg1 : Pipeline.RegionSeg (pcfgs (F := F)) adm (pdats1 B fi fg fb fx fo) none defs₀ 𝒱₀ (K (F := F)).L (K (F := F)).lev 0 where
  win := launch1.win.to₀
  block_pos := launch1.block_pos
  stage_whole := launch1.stage_whole
  K := Fin 8 ⊕ Fin 8
  osem := osem1
  ho := (by decide : Pipeline.OwnSemFacts spec1 osem1)
  hbody c := (body1 B hB fi fg fb fx fo c).loose
  hwaits := Pipeline.hwaits_of_owed_zero _ _ _ _ (K (F := F)).L (K (F := F)).lev 0 fun _ _ => rfl
  pre c := iprop((pt c main_arg1 (fi c) ∗ pt c main_arg2 (fg c) ∗ pt c main_arg3 (fb c)) ∗ pt c main_arg0 (fx c) ∗ pt c main_v1 (fo c) ∗ free c (B c))
  post c := iprop((pt c main_arg1 (fi c) ∗ pt c main_arg2 (fg c) ∗ pt c main_arg3 (fb c)) ∗ pt c main_arg0 (fx c)
    ∗ (∃ f, ⌜Done1 fi fg fb fx fo c f⌝ ∗ pt c main_v1 f) ∗ free c (B c))
  X c := iprop(pt c main_arg0 (fx c) ∗ pt c main_v1 (fo c) ∗ (sems c cc1_scratch1 ∗ sems c cc1_scratch2))
  Y c := iprop(pt c main_arg0 (fx c) ∗ (∃ f, ⌜Done1 fi fg fb fx fo c f⌝ ∗ pt c main_v1 f))
  Z _ := BI.emp
  hentry c := by
    rw [ownSems1, Pipeline.arrays_eq cfgs (pdats1 B fi fg fb fx fo) 0 c launch1.arr_whole ((pdats1 B fi fg fb fx fo 0 c).share_full fun _ => rfl), bigSep_W1,
      owesAt_eq B hB c (pdats1 B fi fg fb fx fo 0 c) 0 rfl rfl]
    iintro ⟨⟨⟨H0, H1, H2⟩, Hx, Ho, HO⟩, Hs, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]; · iexact HO
    isplitl [Hx Ho Hs]
    · isplitl [Hx]; · iexact Hx
      isplitl [Ho]; · iexact Ho
      iexact Hs
    iempintro
  hin c := by
    rw [show (pdats1 B fi fg fb fx fo 0 c).Φ 0 = Φin1 fx fo c from rfl]
    unfold Φin1
    iintro ⟨⟨Hx, Ho, Hs⟩, -, Hr⟩
    isplitl [Hx]; · iexact Hx
    isplitl [Ho]; · iexact Ho
    isplitl [Hs]; · iexact Hs
    iexact Hr
  hout c := by
    rw [ownSems1, show (pdats1 B fi fg fb fx fo 0 c).Φ (Fin.last _) = Φout1 fi fg fb fx fo c from rfl]
    unfold Φout1
    iintro ⟨Hx, Ho, Hs, Hr⟩
    isplitl [Hx Ho]
    · isplitl [Hx]; · iexact Hx
      iexact Ho
    isplitl [Hs]; · iexact Hs
    iexact Hr
  hexit c := by
    rw [Pipeline.arrays_eq cfgs (pdats1 B fi fg fb fx fo) 0 c launch1.arr_whole ((pdats1 B fi fg fb fx fo 0 c).share_full fun _ => rfl), bigSep_W1,
      owesAt_eq B hB c (pdats1 B fi fg fb fx fo 0 c) _ rfl rfl,
      (pdats1 B fi fg fb fx fo 0 c).arrAt_in 0 rfl _, (pdats1 B fi fg fb fx fo 0 c).arrAt_in 1 rfl _, (pdats1 B fi fg fb fx fo 0 c).arrAt_in 2 rfl _]
    iintro ⟨⟨H0, H1, H2⟩, HO, ⟨Hx, Ho⟩, -⟩
    imodintro
    isplitl [H0 H1 H2]
    · isplitl [H0]; · iexact H0
      isplitl [H1]; · iexact H1
      iexact H2
    isplitl [Hx]; · iexact Hx
    isplitl [Ho]; · iexact Ho
    iexact HO

end First

end Cert.Proof.Film
-- ==== Proof.Second.lean ====
/-
  The second dense kernel as a region of the host program: entered holding the two gathered tables, `x` and the result so
  far, left with them back and the last rows of the result made.
-/
module

public import proofs.«01_k».proof.Proof.First

@[expose] public section

noncomputable section

namespace Cert.Proof.Film

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

section Second
variable (B : Dev nD → Set (SemLoc sig × HIx 1)) (hB : ∀ c sm, (sm, none) ∈ B c)
  (fg : Bf (F := F) main_v0_0) (fb : Bf (F := F) main_v0_1) (fx : Bf (F := F) main_arg0) (fo : Bf (F := F) main_v2)

/-- The gathered tables as the fetch stages them. -/
abbrev in2_0 (c : Dev nD) : (cfg2.win 0).block.Idx → Elt F (cfg2.win 0).elt := ((cfg2.win 0).blk t2_0).view.read (Elt F) (fg c)
abbrev in2_1 (c : Dev nD) : (cfg2.win 1).block.Idx → Elt F (cfg2.win 1).elt := ((cfg2.win 1).blk t2_0).view.read (Elt F) (fb c)

abbrev osem2 : Fin 8 ⊕ Fin 8 → SemLoc sig := Sum.elim (fun s => .dma (slSem cc2_scratch1 s)) (fun s => .dma (slSem cc2_scratch2 s))

theorem ownSems2 (c : Dev nD) : (Pipeline.ownSems0 osem2 c : sProp 𝕄) = iprop(sems c cc2_scratch1 ∗ sems c cc2_scratch2) :=
  BI.bigSep_univ_sum (fun k : Fin 8 ⊕ Fin 8 => (semVal ((c.tc : Thread nD τ), osem2 k) 0 : sProp 𝕄))

abbrev Done2 (c : Dev nD) (f : Buf (Elt F) ((c.tc : Thread nD τ).loc main_v2)) : Prop :=
  After2 c (Memref.whole main_arg0) (Memref.whole cc2_stg0_0) (Memref.whole cc2_stg1_0) (Memref.whole main_v2)
    (in2_0 fg c) (in2_1 fb c) (fx c) (fo c) f

abbrev rest2 (c : Dev nD) : sProp 𝕄 := Pipeline.scopedRest (Ix := HIx 1) (Name := ℕ) (U := UU) (Lvl := ℕ) (Val := Elt F) spec2 c

def Φin2 (c : Dev nD) : sProp 𝕄 := iprop(pt c main_arg0 (fx c) ∗ pt c main_v2 (fo c) ∗ (sems c cc2_scratch1 ∗ sems c cc2_scratch2) ∗ rest2 c)
def Φout2 (c : Dev nD) : sProp 𝕄 := iprop(pt c main_arg0 (fx c) ∗ (∃ f, ⌜Done2 fg fb fx fo c f⌝ ∗ pt c main_v2 f)
  ∗ (sems c cc2_scratch1 ∗ sems c cc2_scratch2) ∗ rest2 c)

def dat2 (c : Dev nD) : Dat τ (Elt F) (HIx 1) ℕ UU ℕ cfg2 c where
  A w := match w with
    | ⟨0, _⟩ => fg c
    | ⟨1, _⟩ => fb c
  after w _ := match w with
    | ⟨0, _⟩ => in2_0 fg c
    | ⟨1, _⟩ => in2_1 fb c
  Φ t := if t.val = 0 then Φin2 fx fo c else Φout2 fg fb fx fo c
  q _ := fullShare
  owed _ := 0
  recorded _ := B c

def pdats2 : (p : Fin 2) → (c : Dev nD) → Dat τ (Elt F) (HIx 1) ℕ UU ℕ (Pipeline.pin (pcfgs (F := F)) adm p) c
  | ⟨0, _⟩ => fun c => junkDat c
  | ⟨1, _⟩ => fun c => dat2 B fg fb fx fo c

theorem before2_0 (c : Dev nD) (d : (cfg2.win 0).block.Idx → Elt F (cfg2.win 0).elt) : (dat2 B fg fb fx fo c).before 0 t2_0 d = in2_0 fg c := by
  unfold Dat.before; rw [if_pos (by decide)]; rfl
theorem before2_1 (c : Dev nD) (d : (cfg2.win 1).block.Idx → Elt F (cfg2.win 1).elt) : (dat2 B fg fb fx fo c).before 1 t2_0 d = in2_1 fb c := by
  unfold Dat.before; rw [if_pos (by decide)]; rfl

include hB in
theorem body2 (c : Dev nD) : BodyObligation (dat2 B fg fb fx fo c) (defs₀ (F := F)) 𝒱₀ none Set.univ := fun t => by
  obtain rfl := fin_N2 t
  rw [bigSep_W2, bigSep_W2]
  simp only [owns_whole_eq]
  rw [show (dat2 B fg fb fx fo c).Φ t2_0.castSucc = Φin2 fx fo c from rfl, show (dat2 B fg fb fx fo c).Φ t2_0.succ = Φout2 fg fb fx fo c from rfl,
    owesAt_eq B hB c (dat2 B fg fb fx fo c) t2_0.succ rfl rfl, owesAt_eq B hB c (dat2 B fg fb fx fo c) t2_0.castSucc rfl rfl]
  unfold Φin2 Φout2 rest2
  rw [scopedRest2_eq]
  iintro ⟨⟨Hx, Ho, ⟨Hi, Hj⟩, Hr1, Hr2, Hr3, ⟨%fr, Hr⟩, Hr4⟩, HO, ⟨%d0, %f0, %hf0, H0⟩, ⟨%d1, %f1, %hf1, H1⟩⟩
  rw [before2_0] at hf0
  rw [before2_1] at hf1
  subst hf0 hf1
  iapply (wp_whole2 c (B c) (hB c) (Memref.whole main_arg0) (Memref.whole cc2_stg0_0) (Memref.whole cc2_stg1_0) (Memref.whole main_v2)
    (Memref.whole cc2_scratch0) cc2_scratch1 cc2_scratch2 (in2_0 fg c) (in2_1 fb c) (fx c) (fo c) fr) $$ [Hx Ho Hr Hi Hj HO H0 H1]
  · isplitl [Hx]; · iexact Hx
    isplitl [Ho]; · iexact Ho
    isplitl [Hr]; · iexact Hr
    isplitl [Hi]; · iexact Hi
    isplitl [Hj]; · iexact Hj
    isplitl [H0]; · rw [junk_share]; iexact H0
    isplitl [H1]; · rw [junk_share]; iexact H1
    iexact HO
  rw [junk_share, junk_share]
  iintro ⟨Hx, Ho, Hr, Hi, Hj, H0, H1, HO⟩
  isplitl [Hx Ho Hr Hi Hj Hr1 Hr2 Hr3 Hr4]
  · isplitl [Hx]; · iexact Hx
    isplitl [Ho]; · iexact Ho
    isplitl [Hi Hj]
    · isplitl [Hi]; · iexact Hi
      iexact Hj
    isplitl [Hr1]; · iexact Hr1
    isplitl [Hr2]; · iexact Hr2
    isplitl [Hr3]; · iexact Hr3
    isplitl [Hr]; · iexact Hr
    iexact Hr4
  isplitl [HO]; · iexact HO
  isplitl [H0]; · iexists _; isplitr; swap; (· iexact H0); ipureintro; dsimp only [dat2]
  iexists _; isplitr; swap; (· iexact H1); ipureintro; dsimp only [dat2]

set_option backward.isDefEq.respectTransparency.types false in
/-- The region. -/
def reg2 : Pipeline.RegionSeg (pcfgs (F := F)) adm (pdats2 B fg fb fx fo) none defs₀ 𝒱₀ (K (F := F)).L (K (F := F)).lev 1 where
  win := launch2.win.to₀
  block_pos := launch2.block_pos
  stage_whole := launch2.stage_whole
  K := Fin 8 ⊕ Fin 8
  osem := osem2
  ho := (by decide : Pipeline.OwnSemFacts spec2 osem2)
  hbody c := (body2 B hB fg fb fx fo c).loose
  hwaits := Pipeline.hwaits_of_owed_zero _ _ _ _ (K (F := F)).L (K (F := F)).lev 1 fun _ _ => rfl
  pre c := iprop((pt c main_v0_0 (fg c) ∗ pt c main_v0_1 (fb c)) ∗ pt c main_arg0 (fx c) ∗ pt c main_v2 (fo c) ∗ free c (B c))
  post c := iprop((pt c main_v0_0 (fg c) ∗ pt c main_v0_1 (fb c)) ∗ pt c main_arg0 (fx c)
    ∗ (∃ f, ⌜Done2 fg fb fx fo c f⌝ ∗ pt c main_v2 f) ∗ free c (B c))
  X c := iprop(pt c main_arg0 (fx c) ∗ pt c main_v2 (fo c) ∗ (sems c cc2_scratch1 ∗ sems c cc2_scratch2))
  Y c := iprop(pt c main_arg0 (fx c) ∗ (∃ f, ⌜Done2 fg fb fx fo c f⌝ ∗ pt c main_v2 f))
  Z _ := BI.emp
  hentry c := by
    rw [ownSems2, Pipeline.arrays_eq cfgs (pdats2 B fg fb fx fo) 1 c launch2.arr_whole ((pdats2 B fg fb fx fo 1 c).share_full fun _ => rfl), bigSep_W2,
      owesAt_eq B hB c (pdats2 B fg fb fx fo 1 c) 0 rfl rfl]
    iintro ⟨⟨⟨H0, H1⟩, Hx, Ho, HO⟩, Hs, -⟩
    imodintro
    isplitl [H0 H1]
    · isplitl [H0]; · iexact H0
      iexact H1
    isplitr; · unfold Pipeline.prefHeld; rw [show (Finset.univ : Finset (Fin 0)) = ∅ from rfl, BI.bigSep_empty]; iempintro
    isplitl [HO]; · iexact HO
    isplitl [Hx Ho Hs]
    · isplitl [Hx]; · iexact Hx
      isplitl [Ho]; · iexact Ho
      iexact Hs
    iempintro
  hin c := by
    rw [show (pdats2 B fg fb fx fo 1 c).Φ 0 = Φin2 fx fo c from rfl]
    unfold Φin2
    iintro ⟨⟨Hx, Ho, Hs⟩, -, Hr⟩
    isplitl [Hx]; · iexact Hx
    isplitl [Ho]; · iexact Ho
    isplitl [Hs]; · iexact Hs
    iexact Hr
  hout c := by
    rw [ownSems2, show (pdats2 B fg fb fx fo 1 c).Φ (Fin.last _) = Φout2 fg fb fx fo c from rfl]
    unfold Φout2
    iintro ⟨Hx, Ho, Hs, Hr⟩
    isplitl [Hx Ho]
    · isplitl [Hx]; · iexact Hx
      iexact Ho
    isplitl [Hs]; · iexact Hs
    iexact Hr
  hexit c := by
    rw [Pipeline.arrays_eq cfgs (pdats2 B fg fb fx fo) 1 c launch2.arr_whole ((pdats2 B fg fb fx fo 1 c).share_full fun _ => rfl), bigSep_W2,
      owesAt_eq B hB c (pdats2 B fg fb fx fo 1 c) _ rfl rfl,
      (pdats2 B fg fb fx fo 1 c).arrAt_in 0 rfl _, (pdats2 B fg fb fx fo 1 c).arrAt_in 1 rfl _]
    iintro ⟨⟨H0, H1⟩, HO, ⟨Hx, Ho⟩, -⟩
    imodintro
    isplitl [H0 H1]
    · isplitl [H0]; · iexact H0
      iexact H1
    isplitl [Hx]; · iexact Hx
    isplitl [Ho]; · iexact Ho
    iexact HO

end Second

end Cert.Proof.Film
-- ==== Proof.Rows.lean ====
/-
  The tables of the gather, by rows: a table read is dealt into one read share per copy, each cut at the row that copy
  reads; a table written is cut into its four rows.
-/
module

public import proofs.«01_k».proof.Proof.Second

@[expose] public section

noncomputable section

namespace Cert.Proof.Film

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type}

local notation "𝕄" => MT nD τ sig (HIx 1) (Elt F) ℕ UU ℕ
local notation "HbmTable" => Memref sig Kind.scScalar Space.hbm S4x1024 EltTy.f32

theorem rowOff_inb (n : Fin 4) : ∀ a : Fin 2, (![n.val, 0] : Fin 2 → ℕ) a + S1x1024.size a ≤ S4x1024.size a := fun a =>
  match a with
  | ⟨0, _⟩ => n.isLt
  | ⟨1, _⟩ => Nat.le_refl 1024

/-- Row `n` of a table. -/
abbrev rowM (m : HbmTable) (n : Fin 4) : Memref sig .scScalar .hbm S1024 .f32 :=
  (m.slice (Rect.unit (s := S4x1024) ![n.val, 0] S1x1024.size (rowOff_inb n)) (fun _ => rfl)).squeeze S1024 squeezes_S1x1024_S1024

theorem rowM_disjoint (m : HbmTable) {a b : Fin 4} (h : a ≠ b) : Disjoint (rowM m a).view.set (rowM m b).view.set := by
  rw [show (rowM m a).view.set = (m.view.slice (Rect.unit (s := S4x1024) ![a.val, 0] S1x1024.size (rowOff_inb a))).set from (m.view.slice _).set_reshape _,
    show (rowM m b).view.set = (m.view.slice (Rect.unit (s := S4x1024) ![b.val, 0] S1x1024.size (rowOff_inb b))).set from (m.view.slice _).set_reshape _]
  refine View.disjoint_slice (Rect.unit_disjoint (0 : Fin 2) ?_)
  show a.val + 1 ≤ b.val ∨ b.val + 1 ≤ a.val
  have : a.val ≠ b.val := fun e => h (Fin.ext e)
  omega

variable (d : Dev nD) (u : Fin τ.nSC)

/-- The place a table of the core's has in memory. -/
abbrev at_ (m : HbmTable) : Loc nD τ sig := m.view.loc (S d u : Thread nD τ)

/-- What row `n` of a table reads. -/
abbrev rowVal (m : HbmTable) (n : Fin 4) (f : Buf (Elt F) (at_ d u m)) : Vec F S1024 .f32 := (rowM m n).view.read (Elt F) f

/-- The elements of row `n`. -/
abbrev rowSet (m : HbmTable) (n : Fin 4) : Finset (Idx (at_ d u m)) := (rowM m n).view.set

/-- Row `n` of a written table, held with the row `v`. -/
abbrev rowHas (m : HbmTable) (n : Fin 4) (v : Vec F S1024 .f32) : sProp 𝕄 := winHas (rowSet d u m) (rowVal d u m) n v

/-- Copy `i`'s read share of row `n` of a read table. -/
abbrev rowRead (m : HbmTable) (i n : Fin 4) (f : Buf (Elt F) (at_ d u m)) : sProp 𝕄 :=
  at_ d u m ↦[rowSet d u m n]{shareTok fullShare 4 i} f

/-- What is left of a read table beside the copies' shares of their rows. -/
def readRest (m : HbmTable) (n : Fin 4 → Fin 4) (f : Buf (Elt F) (at_ d u m)) : sProp 𝕄 :=
  iprop((at_ d u m ↦{shareDrop fullShare 4} f)
    ∗ bigSep Finset.univ (fun i : Fin 4 => at_ d u m ↦[Finset.univ \ rowSet d u m (n i)]{shareTok fullShare 4 i} f))

theorem read_cut (m : HbmTable) (n : Fin 4 → Fin 4) (f : Buf (Elt F) (at_ d u m)) :
    (bigSep Finset.univ (fun i : Fin 4 => at_ d u m ↦{shareTok fullShare 4 i} f) : sProp 𝕄)
      = iprop(bigSep Finset.univ (fun i => rowRead d u m i (n i) f)
          ∗ bigSep Finset.univ (fun i : Fin 4 => at_ d u m ↦[Finset.univ \ rowSet d u m (n i)]{shareTok fullShare 4 i} f)) := by
  refine Eq.trans ?_ (BI.bigSep_sep _ _ _)
  refine BI.bigSep_congr fun i _ => ?_
  exact BI.Entails.antisymm (pointsTo_split_subset (Finset.subset_univ _)).1 (pointsTo_split_subset (Finset.subset_univ _)).2

theorem read_split (m : HbmTable) (n : Fin 4 → Fin 4) (f : Buf (Elt F) (at_ d u m)) :
    (at_ d u m ↦{fullShare} f) ⊢ (iprop(bigSep Finset.univ (fun i => rowRead d u m i (n i) f) ∗ readRest d u m n f) : sProp 𝕄) := by
  iintro H
  ihave H := (Transfers.pointsTo_toks_split fullShare 4) $$ H
  icases H with ⟨Hd, H⟩
  ihave H := (Entails.of_eq (read_cut d u m n f)) $$ H
  icases H with ⟨H, Hr⟩
  unfold readRest
  isplitl [H]; · iexact H
  isplitl [Hd]; · iexact Hd
  iexact Hr

theorem read_join (m : HbmTable) (n : Fin 4 → Fin 4) (f : Buf (Elt F) (at_ d u m)) :
    (iprop(bigSep Finset.univ (fun i => rowRead d u m i (n i) f) ∗ readRest d u m n f) : sProp 𝕄) ⊢ (at_ d u m ↦{fullShare} f) := by
  unfold readRest
  iintro ⟨H, Hd, Hr⟩
  iapply (Transfers.pointsTo_toks_join fullShare 4)
  isplitl [Hd]; · iexact Hd
  iapply (Entails.of_eq (read_cut d u m n f).symm)
  isplitl [H]; · iexact H
  iexact Hr

theorem rowSet_disjoint (m : HbmTable) (a b : Fin 4) (h : a ≠ b) : Disjoint (rowSet d u m a) (rowSet d u m b) := rowM_disjoint m h
theorem rowVal_iff (m : HbmTable) (n : Fin 4) (f g : Buf (Elt F) (at_ d u m)) :
    rowVal d u m n f = rowVal d u m n g ↔ ∀ i ∈ rowSet d u m n, f i = g i := read_eq_iff (rowM m n).view f g

/-- What copies of rows `n i` into rows `i` make of a table. -/
def Gathered (t o : HbmTable) (n : Fin 4 → Fin 4) (ft : Buf (Elt F) (at_ d u t)) (fo : Buf (Elt F) (at_ d u o)) : Prop :=
  ∀ i, rowVal d u o i fo = rowVal d u t (n i) ft

/-- What one such copy gives back when it lands. -/
def landed (t o : HbmTable) (n : Fin 4 → Fin 4) (ft : Buf (Elt F) (at_ d u t)) (i : Fin 4) : sProp 𝕄 :=
  iprop(rowHas d u o i (rowVal d u t (n i) ft) ∗ rowRead d u t i (n i) ft)

instance landed_storable (t o : HbmTable) (n : Fin 4 → Fin 4) (ft : Buf (Elt F) (at_ d u t)) (i : Fin 4) :
    BI.Storable (upEmb : UEmb _ 𝕄) (landed d u t o n ft i) := by unfold landed rowHas winHas; infer_instance

theorem all_landed (t o : HbmTable) (n : Fin 4 → Fin 4) (ft : Buf (Elt F) (at_ d u t)) (fo : Buf (Elt F) (at_ d u o)) :
    (iprop(bigSep Finset.univ (fun i => landed d u t o n ft i) ∗ readRest d u t n ft
        ∗ at_ d u o ↦[Finset.univ \ Finset.univ.biUnion (rowSet d u o)]{fullShare} fo) : sProp 𝕄)
      ⊢ iprop((at_ d u t ↦{fullShare} ft) ∗ ∃ f : Buf (Elt F) (at_ d u o), ⌜Gathered d u t o n ft f⌝ ∗ at_ d u o ↦{fullShare} f) := by
  have hs : (bigSep Finset.univ (fun i => landed d u t o n ft i) : sProp 𝕄)
      = iprop(bigSep Finset.univ (fun i => rowHas d u o i (rowVal d u t (n i) ft)) ∗ bigSep Finset.univ (fun i => rowRead d u t i (n i) ft)) :=
    BI.bigSep_sep _ _ _
  rw [hs]
  iintro ⟨⟨Ho, Ht⟩, Hr, Hor⟩
  isplitl [Ht Hr]
  · iapply (read_join d u t n ft)
    isplitl [Ht]; · iexact Ht
    iexact Hr
  ihave H := (windows_join (rowSet d u o) (rowVal d u o) (rowSet_disjoint d u o) (rowVal_iff d u o) (fun i => rowVal d u t (n i) ft) fo) $$ [Ho Hor]
  · isplitl [Ho]; · iexact Ho
    iexact Hor
  icases H with ⟨%g, %hg, H⟩
  iexists g
  isplitr; · ipureintro; exact hg.1
  iexact H

end Cert.Proof.Film
-- ==== Proof.Gather.lean ====
/-
  The gather on the scalar subcore of SparseCore 0: the ids come into its scalar memory, then for each of the two
  tables four rows are copied on one semaphore, and all four are waited for. The other SparseCore does nothing.
-/
module

public import proofs.«01_k».proof.Proof.Rows

@[expose] public section

noncomputable section

namespace Cert.Proof.Film

open Cert.KernelIdeal Cert.KernelIdeal.Gen
open Idealize.ShloMosaic
open Idealize.ShloMosaic.SparseCore (S V T)
open Idealize.ShloMosaic.SparseCore.Cfg (HIx Pay mem_ownRefs mem_ownCells ownBufs ownRefs ownSems0 ownCells)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type}

local notation "𝕄" => MT nD τ sig (HIx 1) (Elt F) ℕ UU ℕ
local notation "HbmTable" => Memref sig Kind.scScalar Space.hbm S4x1024 EltTy.f32

variable [FloatOps F]
variable (d : Dev nD) (u : Fin τ.nSC)

/-- The units one row counts. -/
abbrev rowUnits (o : HbmTable) : ℕ := (rowM o 0).view.dmaCredit
theorem rowUnits_pos (o : HbmTable) : 0 < rowUnits o := View.dmaCredit_pos _ (by decide)

/-- `k` of a table's four copies sent, `w` units of them waited for. -/
abbrev sending (t o : HbmTable) (n : Fin 4 → Fin 4) (ft : Buf (Elt F) (at_ d u t)) (sm : DmaSem sig) (k w : ℕ) : sProp 𝕄 :=
  Transfers.Batch EC (S d u : Thread nD τ) (.dma sm) none (rowUnits o) (landed d u t o n ft) k w

section Row
variable (t o : HbmTable) (n : Fin 4 → Fin 4) (ft : Buf (Elt F) (at_ d u t)) (sm : DmaSem sig)
variable {α : Type}

theorem sending_start : (semVal ((S d u : Thread nD τ), SemLoc.dma sm) 0 : sProp 𝕄) ⊢ |={Set.univ}=> sending d u t o n ft sm 0 0 :=
  Transfers.batch_alloc' EC (S d u : Thread nD τ) (sm := .dma sm) none (rowUnits o) (landed d u t o n ft) (E := Set.univ)

theorem wp_sendRow (i : Fin 4) (v : Vec F S1024 .f32) {hs : (rowM t (n i)).view.WordExact} {hd : (rowM o i).view.WordExact}
    {ht : DmaTarget.Typed (nD := nD) .hbm (.dma sm) (.here (p := Proc.scScalar u) (rowM o i))} {k : PUnit → Prog (TpuEff nD τ sig (Elt F) Λ₀ (S d u : Thread nD τ).2) α} {Q : α → sProp 𝕄} :
    iprop(rowRead d u t i (n i) ft ∗ rowHas d u o i v ∗ sending d u t o n ft sm i.val 0)
      ⊢ iprop((sending d u t o n ft sm (i.val + 1) 0 -∗ wp frame (wpE (defs₀ (F := F)) 𝒱₀ (S d u) none) Set.univ (k ⟨⟩) Q)
        -∗ wp frame (wpE (defs₀ (F := F)) 𝒱₀ (S d u) none) Set.univ
          (.op (.enqueueDmaAs (rowM t (n i)) (.here (rowM o i)) .same (.dma sm) hs hd ht) k) Q) := by
  unfold rowHas winHas
  iintro ⟨Ht, ⟨%g, -, Ho⟩, HB⟩ Hk
  have hD : iprop(((rowM o i).view.loc (S d u : Thread nD τ) ↦[(rowM o i).view.set]{fullShare}
          ((rowM o i).view.write (Elt F) g ((rowM t (n i)).view.read (Elt F) ft) Finset.univ))
        ∗ ((rowM t (n i)).view.loc (S d u : Thread nD τ) ↦[(rowM t (n i)).view.set]{shareTok fullShare 4 i} ft))
      ⊢ (landed d u t o n ft ⟨i.val, i.isLt⟩ : sProp 𝕄) := by
    unfold landed rowHas winHas
    iintro ⟨Hd, Hs⟩
    isplitl [Hd]
    · iexists _
      isplitr; · ipureintro; exact (rowM o i).view.read_write_univ g ((rowM t (n i)).view.read (Elt F) ft)
      iexact Hd
    · iexact Hs
  iapply (Transfers.wp_dmaBatch EC 𝒱₀ (S d u : Thread nD τ) none (src := rowM t (n i)) (dst := rowM o i) (via := .same)
    none (rowUnits o) rfl subset_rfl (j := i.val) (u := 0) i.isLt (Nat.zero_le _)
    (fs := ft) (fd := g) (q := shareTok fullShare 4 i) (D := landed d u t o n ft) hD) $$ [Ht Ho HB]
  · isplitl [Ht]; · iexact Ht
    isplitl [Ho]; · iexact Ho
    iexact HB
  iexact Hk

theorem wp_waitRow (i : Fin 4) (a : Fin 4) {w : ℕ} (hw : w + rowUnits o < rowUnits o * 4) {O : CellTallies nD τ sig (HIx 1)} {W : Waits sig (HIx 1)}
    (hO : ∀ g, O g none = 0) {hs : (rowM t a).view.WordExact} {hd : (rowM o i).view.WordExact}
    {k : PUnit → Prog (TpuEff nD τ sig (Elt F) Λ₀ (S d u : Thread nD τ).2) α} {Q : α → sProp 𝕄} :
    iprop(levAts (K (F := F)).L (K (F := F)).lev ∗ sending d u t o n ft sm 4 w ∗ owes (S d u) O W)
      ⊢ iprop((iprop(sending d u t o n ft sm 4 (w + rowUnits o) ∗ owes (S d u) O (insert (SemLoc.dma sm, none) W))
          -∗ wp frame (wpE (defs₀ (F := F)) 𝒱₀ (S d u) none) Set.univ (k ⟨⟩) Q)
        -∗ wp frame (wpE (defs₀ (F := F)) 𝒱₀ (S d u) none) Set.univ (.op (.waitDma2 sm (rowM t a) (rowM o i) hs hd) k) Q) := by
  iintro ⟨#Hlv, HB, HO⟩ Hk
  ihave HM := ((K (F := F)).mayWait_none (thr := (S d u : Thread nD τ)) (SemLoc.dma sm) hO) $$ Hlv
  iapply (Transfers.wp_waitBatchO EC 𝒱₀ (S d u : Thread nD τ) none (srcw := rowM t a) (dstw := rowM o i) none (N := rowUnits o) rfl
    (D := landed d u t o n ft) (u := w) hw) $$ [HB HO HM]
  · isplitl [HB]; · iexact HB
    isplitl [HO]; · iexact HO
    iexact HM
  iexact Hk

theorem wp_waitRowLast (i : Fin 4) (a : Fin 4) {w : ℕ} (hw : w + rowUnits o = rowUnits o * 4) {O : CellTallies nD τ sig (HIx 1)} {W : Waits sig (HIx 1)}
    (hO : ∀ g, O g none = 0) {hs : (rowM t a).view.WordExact} {hd : (rowM o i).view.WordExact}
    {k : PUnit → Prog (TpuEff nD τ sig (Elt F) Λ₀ (S d u : Thread nD τ).2) α} {Q : α → sProp 𝕄} :
    iprop(levAts (K (F := F)).L (K (F := F)).lev ∗ sending d u t o n ft sm 4 w ∗ owes (S d u) O W)
      ⊢ iprop((iprop(bigSep Finset.univ (fun i => landed d u t o n ft i) ∗ semVal ((S d u : Thread nD τ), SemLoc.dma sm) 0
            ∗ owes (S d u) O (insert (SemLoc.dma sm, none) W))
          -∗ wp frame (wpE (defs₀ (F := F)) 𝒱₀ (S d u) none) Set.univ (k ⟨⟩) Q)
        -∗ wp frame (wpE (defs₀ (F := F)) 𝒱₀ (S d u) none) Set.univ (.op (.waitDma2 sm (rowM t a) (rowM o i) hs hd) k) Q) := by
  iintro ⟨#Hlv, HB, HO⟩ Hk
  ihave HM := ((K (F := F)).mayWait_none (thr := (S d u : Thread nD τ)) (SemLoc.dma sm) hO) $$ Hlv
  iapply (Transfers.wp_waitBatchLastO EC 𝒱₀ (S d u : Thread nD τ) none (srcw := rowM t a) (dstw := rowM o i) none (N := rowUnits o) rfl
    (rowUnits_pos o) (D := landed d u t o n ft) (u := w) hw) $$ [HB HO HM]
  · isplitl [HB]; · iexact HB
    isplitl [HO]; · iexact HO
    iexact HM
  iexact Hk

end Row

/-! ## The ids -/

abbrev idsM : Memref sig .scScalar .hbm S4 .i32 := Memref.whole main_arg1_scs
abbrev wordsM : Memref sig .scScalar .smem S4 .i32 := Memref.whole cc0_scratch0

/-- Id `i`, as the core's scalar memory holds it. -/
abbrev wordOf (f : Buf (Elt F) (wordsM.view.loc (S d u : Thread nD τ))) (i : Fin 4) : Elt F .i32 :=
  (wordsM.access (Rect.unit (s := S4) (idOff i) S1.size (idOff_inb i))).read (Elt F) f (Shape.Idx.first (s := S1) Nat.one_pos)

/-- The ids, once copied. -/
abbrev copied (fi : Buf (Elt F) (idsM.view.loc (S d u : Thread nD τ))) (f0 : Buf (Elt F) (wordsM.view.loc (S d u : Thread nD τ))) :
    Buf (Elt F) (wordsM.view.loc (S d u : Thread nD τ)) :=
  wordsM.view.write (Elt F) f0 (idsM.view.read (Elt F) fi) Finset.univ

/-- The index of id `i`. -/
def idIx (i : Fin 4) : S4.Idx := fun a => match a with | ⟨0, _⟩ => i

/-- Id `i` of the ids array. -/
abbrev idOf (fi : Buf (Elt F) (idsM.view.loc (S d u : Thread nD τ))) (i : Fin 4) : BitVec 32 := fi (idIx i)

theorem wordOf_copied (fi : Buf (Elt F) (idsM.view.loc (S d u : Thread nD τ))) (f0 : Buf (Elt F) (wordsM.view.loc (S d u : Thread nD τ))) (i : Fin 4) :
    wordOf d u (copied d u fi f0) i = idOf d u fi i := by
  have h := congrFun (wordsM.view.read_write_univ f0 (idsM.view.read (Elt F) fi)) (idIx i)
  refine Eq.trans ?_ (h.trans rfl)
  show copied d u fi f0 ((Rect.unit (s := S4) (idOff i) S1.size (idOff_inb i)).emb (Shape.Idx.first (s := S1) Nat.one_pos)) = copied d u fi f0 (idIx i)
  have e : ∀ i : Fin 4, (Rect.unit (s := S4) (idOff i) S1.size (idOff_inb i)).emb (Shape.Idx.first (s := S1) Nat.one_pos) = idIx i := by decide
  rw [e]

theorem wp_idWord (fi : Buf (Elt F) (idsM.view.loc (S d u : Thread nD τ))) (f0 : Buf (Elt F) (wordsM.view.loc (S d u : Thread nD τ))) (i : Fin 4)
    {Q : Elt F .i32 → sProp 𝕄} :
    (wordsM.view.loc (S d u : Thread nD τ) ↦{fullShare} copied d u fi f0)
      ⊢ iprop((((wordsM.view.loc (S d u : Thread nD τ)) ↦{fullShare} copied d u fi f0) -∗ Q (idOf d u fi i))
        -∗ wp frame (wpE (defs₀ (F := F)) 𝒱₀ (S d u) none) Set.univ
            (smemLoad wordsM (Rect.unit (s := S4) (idOff i) S1.size (idOff_inb i)) numel1_S1 rfl) Q) := by
  unfold smemLoad
  iintro Hi Hk
  iapply (wp_smemLoadElt 𝒱₀ (S d u : Thread nD τ) none Set.univ (m := wordsM) (r := Rect.unit (s := S4) (idOff i) S1.size (idOff_inb i))
    (S := Finset.univ) (q := fullShare) (f := copied d u fi f0) (Finset.subset_univ _)) $$ Hi
  iintro Hi
  rw [wp_ret]; imodintro
  rw [show (wordsM.view.slice (Rect.unit (s := S4) (idOff i) S1.size (idOff_inb i))).read (Elt F) (copied d u fi f0) (Shape.Idx.first (s := S1) Nat.one_pos)
    = idOf d u fi i from wordOf_copied d u fi f0 i]
  iapply Hk $$ Hi

theorem chk_row {v : BitVec 32} (hv : v.toNat < 4) : ∀ a : Fin 2, (![v.toNat, 0] : Fin 2 → ℕ) a + S1x1024.size a ≤ S4x1024.size a := rowOff_inb ⟨v.toNat, hv⟩

/-! ## The body -/

abbrev gammaM : HbmTable := Memref.whole main_arg2_scs
abbrev betaM : HbmTable := Memref.whole main_arg3_scs
abbrev gammaO : HbmTable := Memref.whole main_v0_0_scs
abbrev betaO : HbmTable := Memref.whole main_v0_1_scs

/-- The row each copy takes: the id's. -/
abbrev rowsOf (fi : Buf (Elt F) (idsM.view.loc (S d u : Thread nD τ))) (hr : ∀ i, (idOf d u fi i).toNat < 4) (i : Fin 4) : Fin 4 :=
  ⟨(idOf d u fi i).toNat, hr i⟩

/-- Four conjuncts one by one. -/
theorem bigSep_of_four (Φ : Fin 4 → sProp 𝕄) : (bigSep Finset.univ Φ : sProp 𝕄) = (iprop(Φ 0 ∗ Φ 1 ∗ Φ 2 ∗ Φ 3) : sProp 𝕄) := by
  rw [bigSep_univ_eq_bigSepL [(0 : Fin 4), 1, 2, 3] (by decide) (by decide) Φ]
  rfl

theorem wp_seq {α β : Type} (p : Prog (TpuEff nD τ sig (Elt F) Λ₀ (S d u : Thread nD τ).2) α)
    (k : α → Prog (TpuEff nD τ sig (Elt F) Λ₀ (S d u : Thread nD τ).2) β) (Q : β → sProp 𝕄) :
    wp frame (wpE (defs₀ (F := F)) 𝒱₀ (S d u) none) Set.univ p (fun a => wp frame (wpE (defs₀ (F := F)) 𝒱₀ (S d u) none) Set.univ (k a) Q)
      ⊢ wp frame (wpE (defs₀ (F := F)) 𝒱₀ (S d u) none) Set.univ (p >>= k) Q := Entails.of_eq (wp_bind _ _ _ _ _ _).symm

/-- The core the grid's point `L` runs on. -/
abbrev cr (L : grid0.Coords) : Fin τ.nSC := (L 0).castLE hcore0

omit u in
set_option maxHeartbeats 4000000 in
theorem wp_gather (L : grid0.Coords) (h1 : k0_cond1 L = 1#1)
    (O : CellTallies nD τ sig (HIx 1)) (W : Waits sig (HIx 1)) (hO : ∀ g, O g none = 0)
    (fi : Buf (Elt F) (idsM.view.loc (S d (cr L) : Thread nD τ))) (hr : ∀ i, (idOf d (cr L) fi i).toNat < 4)
    (fg : Buf (Elt F) (at_ d (cr L) gammaM)) (fb : Buf (Elt F) (at_ d (cr L) betaM)) (f4 : Buf (Elt F) (at_ d (cr L) gammaO)) (f5 : Buf (Elt F) (at_ d (cr L) betaO))
    (f6 : Buf (Elt F) (wordsM.view.loc (S d (cr L) : Thread nD τ))) :
    iprop(levAts (K (F := F)).L (K (F := F)).lev ∗ (idsM.view.loc (S d (cr L) : Thread nD τ) ↦{fullShare} fi)
        ∗ (at_ d (cr L) gammaM ↦{fullShare} fg) ∗ (at_ d (cr L) betaM ↦{fullShare} fb) ∗ (at_ d (cr L) gammaO ↦{fullShare} f4) ∗ (at_ d (cr L) betaO ↦{fullShare} f5)
        ∗ (wordsM.view.loc (S d (cr L) : Thread nD τ) ↦{fullShare} f6)
        ∗ semVal ((S d (cr L) : Thread nD τ), SemLoc.dma cc0_scratch1.sem) 0 ∗ semVal ((S d (cr L) : Thread nD τ), SemLoc.dma cc0_scratch2.sem) 0
        ∗ semVal ((S d (cr L) : Thread nD τ), SemLoc.dma cc0_scoped0.sem) 0 ∗ owes (S d (cr L)) O W)
      ⊢ wp frame (wpE (defs₀ (F := F)) 𝒱₀ (S d (cr L)) none) Set.univ
          (cc0__gather_body L idsM (Memref.isWhole_whole _) gammaM (Memref.isWhole_whole _) betaM (Memref.isWhole_whole _)
            gammaO (Memref.isWhole_whole _) betaO (Memref.isWhole_whole _) wordsM (Memref.isWhole_whole _) cc0_scratch1 cc0_scratch2 cc0_scoped0)
          fun _ => (iprop((idsM.view.loc (S d (cr L) : Thread nD τ) ↦{fullShare} fi)
            ∗ (at_ d (cr L) gammaM ↦{fullShare} fg) ∗ (at_ d (cr L) betaM ↦{fullShare} fb)
            ∗ (∃ f : Buf (Elt F) (at_ d (cr L) gammaO), ⌜Gathered d (cr L) gammaM gammaO (rowsOf d (cr L) fi hr) fg f⌝ ∗ at_ d (cr L) gammaO ↦{fullShare} f)
            ∗ (∃ f : Buf (Elt F) (at_ d (cr L) betaO), ⌜Gathered d (cr L) betaM betaO (rowsOf d (cr L) fi hr) fb f⌝ ∗ at_ d (cr L) betaO ↦{fullShare} f)
            ∗ (∃ f : Buf (Elt F) (wordsM.view.loc (S d (cr L) : Thread nD τ)), wordsM.view.loc (S d (cr L) : Thread nD τ) ↦{fullShare} f)
            ∗ semVal ((S d (cr L) : Thread nD τ), SemLoc.dma cc0_scratch1.sem) 0 ∗ semVal ((S d (cr L) : Thread nD τ), SemLoc.dma cc0_scratch2.sem) 0
            ∗ semVal ((S d (cr L) : Thread nD τ), SemLoc.dma cc0_scoped0.sem) 0
            ∗ ∃ W', ⌜∀ p ∈ W', p ∈ W ∨ p.2 = none⌝ ∗ owes (S d (cr L)) O W') : sProp 𝕄) := by
  rw [cc0__gather_body_eq_skeleton]
  unfold cc0__gather_body_skel
  rw [dif_pos h1]
  rw [k0_part1_eq_skeleton, k0_part2_eq_skeleton]
  unfold k0_part1_skel k0_part2_skel
  simp only [Prog.lift, Prog.bind_op, Prog.bind_ret, Prog.pure_eq_ret]
  have hc1 : k0_chk1 L (idOf d (cr L) fi 0) := ⟨fun _ => chk_row (hr 0), fun _ => chk_row (hr 0)⟩
  have hc2 : k0_chk2 L (idOf d (cr L) fi 1) := ⟨fun _ => chk_row (hr 1), fun _ => chk_row (hr 1)⟩
  have hc3 : k0_chk3 L (idOf d (cr L) fi 2) := ⟨fun _ => chk_row (hr 2), fun _ => chk_row (hr 2)⟩
  have hc4 : k0_chk4 L (idOf d (cr L) fi 3) := fun _ => chk_row (hr 3)
  iintro ⟨#Hlv, Hi, Hg, Hb, H4, H5, Hw, Hzg, Hzb, Hzi, HO⟩
  -- the ids
  imod (Transfers.batch_alloc' EC (S d (cr L) : Thread nD τ) (sm := .dma cc0_scoped0.sem) none wordsM.view.dmaCredit
    (fun _ : Fin 1 => iprop((wordsM.view.loc (S d (cr L) : Thread nD τ) ↦{fullShare} copied d (cr L) fi f6)
      ∗ idsM.view.loc (S d (cr L) : Thread nD τ) ↦{fullShare} fi)) (E := Set.univ)) $$ Hzi with HB
  have hD : iprop((wordsM.view.loc (S d (cr L) : Thread nD τ) ↦[Finset.univ]{fullShare} (wordsM.view.write (Elt F) f6 (idsM.view.read (Elt F) fi) Finset.univ))
        ∗ (idsM.view.loc (S d (cr L) : Thread nD τ) ↦[idsM.view.set]{fullShare} fi))
      ⊢ (iprop((wordsM.view.loc (S d (cr L) : Thread nD τ) ↦{fullShare} copied d (cr L) fi f6)
        ∗ idsM.view.loc (S d (cr L) : Thread nD τ) ↦{fullShare} fi) : sProp 𝕄) := by
    rw [show idsM.view.set = Finset.univ from View.set_whole _]
  iapply (Transfers.wp_dmaBatch EC 𝒱₀ (S d (cr L) : Thread nD τ) none (src := idsM) (dst := wordsM) (via := .same)
    none wordsM.view.dmaCredit rfl (Finset.subset_univ _) (j := 0) (u := 0) (Nat.one_pos) (Nat.zero_le _)
    (fs := fi) (fd := f6) (q := fullShare) (D := fun _ : Fin 1 => _) hD) $$ [Hi Hw HB]
  · isplitl [Hi]
    · rw [show idsM.view.set = Finset.univ from View.set_whole _]; iexact Hi
    isplitl [Hw]; · iexact Hw
    iexact HB
  iintro HB
  ihave HM := ((K (F := F)).mayWait_none (thr := (S d (cr L) : Thread nD τ)) (SemLoc.dma cc0_scoped0.sem) hO) $$ Hlv
  iapply (Transfers.wp_waitBatchLastO EC 𝒱₀ (S d (cr L) : Thread nD τ) none (srcw := idsM) (dstw := wordsM) none (N := wordsM.view.dmaCredit) rfl
    (View.dmaCredit_pos _ (by decide)) (u := 0) (by rw [Nat.zero_add, Nat.mul_one])) $$ [HB HO HM]
  · isplitl [HB]; · iexact HB
    isplitl [HO]; · iexact HO
    iexact HM
  rw [bigSep_of_one]
  iintro ⟨⟨Hw, Hi⟩, Hzi, HO⟩
  -- the tables, by rows
  imod (sending_start d (cr L) gammaM gammaO (rowsOf d (cr L) fi hr) fg cc0_scratch1.sem) $$ Hzg with HBg
  ihave Hg := (read_split d (cr L) gammaM (rowsOf d (cr L) fi hr) fg) $$ Hg
  icases Hg with ⟨Hg, Hrg⟩
  ihave Hg := (Entails.of_eq (bigSep_of_four _)) $$ Hg
  icases Hg with ⟨Hg0, Hg1, Hg2, Hg3⟩
  ihave H4 := (windows_split (rowSet d (cr L) gammaO) (rowVal d (cr L) gammaO) (rowSet_disjoint d (cr L) gammaO) f4) $$ H4
  icases H4 with ⟨H4, Hqg⟩
  ihave H4 := (Entails.of_eq (bigSep_of_four _)) $$ H4
  icases H4 with ⟨Hog0, Hog1, Hog2, Hog3⟩
  imod (sending_start d (cr L) betaM betaO (rowsOf d (cr L) fi hr) fb cc0_scratch2.sem) $$ Hzb with HBb
  ihave Hb := (read_split d (cr L) betaM (rowsOf d (cr L) fi hr) fb) $$ Hb
  icases Hb with ⟨Hb, Hrb⟩
  ihave Hb := (Entails.of_eq (bigSep_of_four _)) $$ Hb
  icases Hb with ⟨Hb0, Hb1, Hb2, Hb3⟩
  ihave H5 := (windows_split (rowSet d (cr L) betaO) (rowVal d (cr L) betaO) (rowSet_disjoint d (cr L) betaO) f5) $$ H5
  icases H5 with ⟨H5, Hqb⟩
  ihave H5 := (Entails.of_eq (bigSep_of_four _)) $$ H5
  icases H5 with ⟨Hob0, Hob1, Hob2, Hob3⟩
  iapply (wp_seq d (cr L))
  iapply (wp_seq d (cr L))
  iapply (wp_idWord d (cr L) fi f6 0) $$ Hw
  iintro Hw
  iapply (wp_assume 𝒱₀ (S d (cr L) : Thread nD τ) none Set.univ hc1)
  iapply (wp_sendRow d (cr L) gammaM gammaO (rowsOf d (cr L) fi hr) fg cc0_scratch1.sem 0 _) $$ [Hg0 Hog0 HBg]
  · isplitl [Hg0]; · iexact Hg0
    isplitl [Hog0]; · iexact Hog0
    iexact HBg
  iintro HBg
  iapply (wp_sendRow d (cr L) betaM betaO (rowsOf d (cr L) fi hr) fb cc0_scratch2.sem 0 _) $$ [Hb0 Hob0 HBb]
  · isplitl [Hb0]; · iexact Hb0
    isplitl [Hob0]; · iexact Hob0
    iexact HBb
  iintro HBb
  iapply (wp_seq d (cr L))
  iapply (wp_idWord d (cr L) fi f6 1) $$ Hw
  iintro Hw
  iapply (wp_assume 𝒱₀ (S d (cr L) : Thread nD τ) none Set.univ hc2)
  iapply (wp_sendRow d (cr L) gammaM gammaO (rowsOf d (cr L) fi hr) fg cc0_scratch1.sem 1 _) $$ [Hg1 Hog1 HBg]
  · isplitl [Hg1]; · iexact Hg1
    isplitl [Hog1]; · iexact Hog1
    iexact HBg
  iintro HBg
  iapply (wp_sendRow d (cr L) betaM betaO (rowsOf d (cr L) fi hr) fb cc0_scratch2.sem 1 _) $$ [Hb1 Hob1 HBb]
  · isplitl [Hb1]; · iexact Hb1
    isplitl [Hob1]; · iexact Hob1
    iexact HBb
  iintro HBb
  iapply (wp_seq d (cr L))
  iapply (wp_idWord d (cr L) fi f6 2) $$ Hw
  iintro Hw
  iapply (wp_assume 𝒱₀ (S d (cr L) : Thread nD τ) none Set.univ hc3)
  iapply (wp_sendRow d (cr L) gammaM gammaO (rowsOf d (cr L) fi hr) fg cc0_scratch1.sem 2 _) $$ [Hg2 Hog2 HBg]
  · isplitl [Hg2]; · iexact Hg2
    isplitl [Hog2]; · iexact Hog2
    iexact HBg
  iintro HBg
  rw [wp_ret]; imodintro
  iapply (wp_sendRow d (cr L) betaM betaO (rowsOf d (cr L) fi hr) fb cc0_scratch2.sem 2 _) $$ [Hb2 Hob2 HBb]
  · isplitl [Hb2]; · iexact Hb2
    isplitl [Hob2]; · iexact Hob2
    iexact HBb
  iintro HBb
  iapply (wp_seq d (cr L))
  iapply (wp_seq d (cr L))
  iapply (wp_idWord d (cr L) fi f6 3) $$ Hw
  iintro Hw
  iapply (wp_assume 𝒱₀ (S d (cr L) : Thread nD τ) none Set.univ hc4)
  iapply (wp_sendRow d (cr L) gammaM gammaO (rowsOf d (cr L) fi hr) fg cc0_scratch1.sem 3 _) $$ [Hg3 Hog3 HBg]
  · isplitl [Hg3]; · iexact Hg3
    isplitl [Hog3]; · iexact Hog3
    iexact HBg
  iintro HBg
  iapply (wp_sendRow d (cr L) betaM betaO (rowsOf d (cr L) fi hr) fb cc0_scratch2.sem 3 _) $$ [Hb3 Hob3 HBb]
  · isplitl [Hb3]; · iexact Hb3
    isplitl [Hob3]; · iexact Hob3
    iexact HBb
  iintro HBb
  iapply (wp_waitRow d (cr L) gammaM gammaO (rowsOf d (cr L) fi hr) fg cc0_scratch1.sem 0 ((rowsOf d (cr L) fi hr) 0) (w := 0) (by have := rowUnits_pos gammaO; omega) hO (hs := (View.wordExact_bits rfl).reshape _ _) (hd := (View.wordExact_bits rfl).reshape _ _)) $$ [HBg HO]
  · isplitr; · iexact Hlv
    isplitl [HBg]; · iexact HBg
    iexact HO
  iintro ⟨HBg, HO⟩
  iapply (wp_waitRow d (cr L) betaM betaO (rowsOf d (cr L) fi hr) fb cc0_scratch2.sem 0 ((rowsOf d (cr L) fi hr) 0) (w := 0) (by have := rowUnits_pos betaO; omega) hO (hs := (View.wordExact_bits rfl).reshape _ _) (hd := (View.wordExact_bits rfl).reshape _ _)) $$ [HBb HO]
  · isplitr; · iexact Hlv
    isplitl [HBb]; · iexact HBb
    iexact HO
  iintro ⟨HBb, HO⟩
  iapply (wp_waitRow d (cr L) gammaM gammaO (rowsOf d (cr L) fi hr) fg cc0_scratch1.sem 1 ((rowsOf d (cr L) fi hr) 1) (w := 0 + rowUnits gammaO) (by have := rowUnits_pos gammaO; omega) hO (hs := (View.wordExact_bits rfl).reshape _ _) (hd := (View.wordExact_bits rfl).reshape _ _)) $$ [HBg HO]
  · isplitr; · iexact Hlv
    isplitl [HBg]; · iexact HBg
    iexact HO
  iintro ⟨HBg, HO⟩
  iapply (wp_waitRow d (cr L) betaM betaO (rowsOf d (cr L) fi hr) fb cc0_scratch2.sem 1 ((rowsOf d (cr L) fi hr) 1) (w := 0 + rowUnits betaO) (by have := rowUnits_pos betaO; omega) hO (hs := (View.wordExact_bits rfl).reshape _ _) (hd := (View.wordExact_bits rfl).reshape _ _)) $$ [HBb HO]
  · isplitr; · iexact Hlv
    isplitl [HBb]; · iexact HBb
    iexact HO
  iintro ⟨HBb, HO⟩
  rw [wp_ret]; imodintro
  iapply (wp_waitRow d (cr L) gammaM gammaO (rowsOf d (cr L) fi hr) fg cc0_scratch1.sem 2 ((rowsOf d (cr L) fi hr) 2) (w := 0 + rowUnits gammaO + rowUnits gammaO) (by have := rowUnits_pos gammaO; omega) hO (hs := (View.wordExact_bits rfl).reshape _ _) (hd := (View.wordExact_bits rfl).reshape _ _)) $$ [HBg HO]
  · isplitr; · iexact Hlv
    isplitl [HBg]; · iexact HBg
    iexact HO
  iintro ⟨HBg, HO⟩
  iapply (wp_waitRow d (cr L) betaM betaO (rowsOf d (cr L) fi hr) fb cc0_scratch2.sem 2 ((rowsOf d (cr L) fi hr) 2) (w := 0 + rowUnits betaO + rowUnits betaO) (by have := rowUnits_pos betaO; omega) hO (hs := (View.wordExact_bits rfl).reshape _ _) (hd := (View.wordExact_bits rfl).reshape _ _)) $$ [HBb HO]
  · isplitr; · iexact Hlv
    isplitl [HBb]; · iexact HBb
    iexact HO
  iintro ⟨HBb, HO⟩
  iapply (wp_waitRowLast d (cr L) gammaM gammaO (rowsOf d (cr L) fi hr) fg cc0_scratch1.sem 3 ((rowsOf d (cr L) fi hr) 3) (w := 0 + rowUnits gammaO + rowUnits gammaO + rowUnits gammaO) (by omega) hO (hs := (View.wordExact_bits rfl).reshape _ _) (hd := (View.wordExact_bits rfl).reshape _ _)) $$ [HBg HO]
  · isplitr; · iexact Hlv
    isplitl [HBg]; · iexact HBg
    iexact HO
  iintro ⟨HBg, Hzg, HO⟩
  iapply (wp_waitRowLast d (cr L) betaM betaO (rowsOf d (cr L) fi hr) fb cc0_scratch2.sem 3 ((rowsOf d (cr L) fi hr) 3) (w := 0 + rowUnits betaO + rowUnits betaO + rowUnits betaO) (by omega) hO (hs := (View.wordExact_bits rfl).reshape _ _) (hd := (View.wordExact_bits rfl).reshape _ _)) $$ [HBb HO]
  · isplitr; · iexact Hlv
    isplitl [HBb]; · iexact HBb
    iexact HO
  iintro ⟨HBb, Hzb, HO⟩
  rw [wp_ret]; imodintro
  ihave Hg := (all_landed d (cr L) gammaM gammaO (rowsOf d (cr L) fi hr) fg f4) $$ [HBg Hrg Hqg]
  · isplitl [HBg]; · iexact HBg
    isplitl [Hrg]; · iexact Hrg
    iexact Hqg
  icases Hg with ⟨Hg, H4⟩
  ihave Hb := (all_landed d (cr L) betaM betaO (rowsOf d (cr L) fi hr) fb f5) $$ [HBb Hrb Hqb]
  · isplitl [HBb]; · iexact HBb
    isplitl [Hrb]; · iexact Hrb
    iexact Hqb
  icases Hb with ⟨Hb, H5⟩
  isplitl [Hi]; · iexact Hi
  isplitl [Hg]; · iexact Hg
  isplitl [Hb]; · iexact Hb
  isplitl [H4]; · iexact H4
  isplitl [H5]; · iexact H5
  isplitl [Hw]; · iexists _; iexact Hw
  isplitl [Hzg]; · iexact Hzg
  isplitl [Hzb]; · iexact Hzb
  isplitl [Hzi]; · iexact Hzi
  iexists _
  isplitr; rotate_left 1; · iexact HO
  ipureintro
  intro p hp
  simp only [Finset.mem_insert] at hp
  rcases hp with rfl | rfl | rfl | rfl | rfl | rfl | rfl | rfl | rfl | hp
  all_goals first | exact Or.inr rfl | exact Or.inl hp

end Cert.Proof.Film
-- ==== Proof.Call.lean ====
/-
  The call of the gather: what the TensorCore sends the scalar subcore of SparseCore 0 and gets back, and the kernel's
  proof at each of the two SparseCores.
-/
module

public import proofs.«01_k».proof.Proof.Gather

@[expose] public section

noncomputable section

namespace Cert.Proof.Film

open Cert.KernelIdeal Cert.KernelIdeal.Gen
open Idealize.ShloMosaic
open Idealize.ShloMosaic.SparseCore (S V T)
open Idealize.ShloMosaic.SparseCore.Cfg (HIx Pay mem_ownRefs mem_ownCells ownBufs ownRefs ownSems0 ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "HbmTable" => Memref sig Kind.scScalar Space.hbm S4x1024 EltTy.f32

/-! ## Rows by their elements -/

/-- Element `k` of row `i` of a table. -/
def tIx (i : Fin 4) (k : Fin 1024) : S4x1024.Idx := fun a => match a with | ⟨0, _⟩ => i | ⟨1, _⟩ => k

/-- Element `k` of a block of one row. -/
def rIx (k : Fin 1024) : S1x1024.Idx := fun a => match a with | ⟨0, _⟩ => ⟨0, Nat.one_pos⟩ | ⟨1, _⟩ => k

theorem rowM_emb (i : Fin 4) (k : Fin 1024) :
    (Rect.unit (s := S4x1024) ![i.val, 0] S1x1024.size (rowOff_inb i)).emb (rIx k) = tIx i k := by
  funext a
  apply Fin.ext
  match a with
  | ⟨0, _⟩ => show i.val + 0 * 1 = i.val; omega
  | ⟨1, _⟩ => show 0 + 1 * k.val = k.val; omega

/-- Table `f` holds, in row `i`, the row of table `ft` that id `i` names. -/
def Picked (fi : S4.Idx → BitVec 32) (ft f : S4x1024.Idx → Elt F .f32) : Prop :=
  ∀ (i n : Fin 4) (k : Fin 1024), (fi (idIx i)).toNat = n.val → f (tIx i k) = ft (tIx n k)

variable (d : Dev nD) (u : Fin τ.nSC)

theorem rowVal_gammaM (n : Fin 4) (k : Fin 1024) (f : Buf (Elt F) (at_ d u gammaM)) :
    rowVal d u gammaM n f ((Shape.reshapeEquiv squeezes_S1x1024_S1024.numel_eq).symm (rIx k)) = f (tIx n k) := by
  show f ((Rect.unit (s := S4x1024) ![n.val, 0] S1x1024.size (rowOff_inb n)).emb (Shape.reshapeEquiv squeezes_S1x1024_S1024.numel_eq
    ((Shape.reshapeEquiv squeezes_S1x1024_S1024.numel_eq).symm (rIx k)))) = _
  rw [Equiv.apply_symm_apply, rowM_emb]
theorem rowVal_betaM (n : Fin 4) (k : Fin 1024) (f : Buf (Elt F) (at_ d u betaM)) :
    rowVal d u betaM n f ((Shape.reshapeEquiv squeezes_S1x1024_S1024.numel_eq).symm (rIx k)) = f (tIx n k) := by
  show f ((Rect.unit (s := S4x1024) ![n.val, 0] S1x1024.size (rowOff_inb n)).emb (Shape.reshapeEquiv squeezes_S1x1024_S1024.numel_eq
    ((Shape.reshapeEquiv squeezes_S1x1024_S1024.numel_eq).symm (rIx k)))) = _
  rw [Equiv.apply_symm_apply, rowM_emb]
theorem rowVal_gammaO (n : Fin 4) (k : Fin 1024) (f : Buf (Elt F) (at_ d u gammaO)) :
    rowVal d u gammaO n f ((Shape.reshapeEquiv squeezes_S1x1024_S1024.numel_eq).symm (rIx k)) = f (tIx n k) := by
  show f ((Rect.unit (s := S4x1024) ![n.val, 0] S1x1024.size (rowOff_inb n)).emb (Shape.reshapeEquiv squeezes_S1x1024_S1024.numel_eq
    ((Shape.reshapeEquiv squeezes_S1x1024_S1024.numel_eq).symm (rIx k)))) = _
  rw [Equiv.apply_symm_apply, rowM_emb]
theorem rowVal_betaO (n : Fin 4) (k : Fin 1024) (f : Buf (Elt F) (at_ d u betaO)) :
    rowVal d u betaO n f ((Shape.reshapeEquiv squeezes_S1x1024_S1024.numel_eq).symm (rIx k)) = f (tIx n k) := by
  show f ((Rect.unit (s := S4x1024) ![n.val, 0] S1x1024.size (rowOff_inb n)).emb (Shape.reshapeEquiv squeezes_S1x1024_S1024.numel_eq
    ((Shape.reshapeEquiv squeezes_S1x1024_S1024.numel_eq).symm (rIx k)))) = _
  rw [Equiv.apply_symm_apply, rowM_emb]

section Picked
variable (fi : Buf (Elt F) (idsM.view.loc (S d u : Thread nD τ))) (hr : ∀ i, (idOf d u fi i).toNat < 4)

theorem picked_gamma {ft : Buf (Elt F) (at_ d u gammaM)} {f : Buf (Elt F) (at_ d u gammaO)}
    (h : Gathered d u gammaM gammaO (rowsOf d u fi hr) ft f) : Picked (F := F) fi ft f := by
  intro i n k hn
  have e := congrFun (h i) ((Shape.reshapeEquiv squeezes_S1x1024_S1024.numel_eq).symm (rIx k))
  rw [rowVal_gammaO, rowVal_gammaM, show rowsOf d u fi hr i = n from Fin.ext hn] at e
  exact e
theorem picked_beta {ft : Buf (Elt F) (at_ d u betaM)} {f : Buf (Elt F) (at_ d u betaO)}
    (h : Gathered d u betaM betaO (rowsOf d u fi hr) ft f) : Picked (F := F) fi ft f := by
  intro i n k hn
  have e := congrFun (h i) ((Shape.reshapeEquiv squeezes_S1x1024_S1024.numel_eq).symm (rIx k))
  rw [rowVal_betaO, rowVal_betaM, show rowsOf d u fi hr i = n from Fin.ext hn] at e
  exact e
end Picked

/-! ## What the call carries -/

variable (m : (ℓ : Loc nD τ sig) → Buf (Elt F) ℓ)

abbrev idsL (d : Dev nD) : Loc nD τ sig := (SparseCore.T d).loc main_arg1
abbrev gamL (d : Dev nD) : Loc nD τ sig := (SparseCore.T d).loc main_arg2
abbrev betL (d : Dev nD) : Loc nD τ sig := (SparseCore.T d).loc main_arg3
abbrev rowGL (d : Dev nD) : Loc nD τ sig := (SparseCore.T d).loc main_v0_0
abbrev rowBL (d : Dev nD) : Loc nD τ sig := (SparseCore.T d).loc main_v0_1

/-- Every id names a row of the tables. -/
def InRange : Prop := ∀ (d : Dev nD) (i : Fin 4), ((m (idsL d) : S4.Idx → BitVec 32) (idIx i)).toNat < 4

/-- What goes to SparseCore 0: the ids, the tables, and the two arrays of rows to fill. -/
def toCore (d : Dev nD) : sProp 𝕄 :=
  iprop((idsL d ↦{fullShare} m (idsL d)) ∗ (gamL d ↦{fullShare} m (gamL d)) ∗ (betL d ↦{fullShare} m (betL d))
    ∗ (∃ f : Buf (Elt F) (rowGL d), rowGL d ↦{fullShare} f) ∗ ∃ f : Buf (Elt F) (rowBL d), rowBL d ↦{fullShare} f)
/-- What comes back: the same, with the rows filled. -/
def ofCore (d : Dev nD) : sProp 𝕄 :=
  iprop((idsL d ↦{fullShare} m (idsL d)) ∗ (gamL d ↦{fullShare} m (gamL d)) ∗ (betL d ↦{fullShare} m (betL d))
    ∗ (∃ f : Buf (Elt F) (rowGL d), ⌜Picked (F := F) (m (idsL d)) (m (gamL d)) f⌝ ∗ rowGL d ↦{fullShare} f)
    ∗ ∃ f : Buf (Elt F) (rowBL d), ⌜Picked (F := F) (m (idsL d)) (m (betL d)) f⌝ ∗ rowBL d ↦{fullShare} f)

instance toCore_storable (d : Dev nD) : BI.Storable (upEmb : UEmb _ 𝕄) (toCore m d) := by unfold toCore; infer_instance
instance ofCore_storable (d : Dev nD) : BI.Storable (upEmb : UEmb _ 𝕄) (ofCore m d) := by unfold ofCore; infer_instance

/-- SparseCore 0 gets all, SparseCore 1 nothing. -/
def atCore (n : ℕ) (Φ : sProp 𝕄) : sProp 𝕄 := if n = 0 then Φ else iprop(emp)

instance atCore_storable (n : ℕ) (Φ : sProp 𝕄) [h : BI.Storable (upEmb : UEmb _ 𝕄) Φ] : BI.Storable (upEmb : UEmb _ 𝕄) (atCore n Φ) := by
  unfold atCore
  split
  · exact h
  · infer_instance

def P : (K (F := F)).Pay (nD := nD) (Val := Elt F) (Name := ℕ) (U := UU) where
  st := fun _ d c => atCore c.val (toCore m d)
  dn := fun _ d c => atCore c.val (ofCore m d)
  go := fun _ _ _ _ => iprop(emp)
  td := fun _ _ _ _ => iprop(emp)
  x := fun _ _ => iprop(emp)

instance P_storable : (P (F := F) m).IsStorable where
  st _ d c := atCore_storable c.val (toCore m d)
  dn _ d c := atCore_storable c.val (ofCore m d)
  go _ _ _ _ := (inferInstance : BI.Storable (upEmb : UEmb _ 𝕄) (iprop(emp) : sProp 𝕄))
  td _ _ _ _ := (inferInstance : BI.Storable (upEmb : UEmb _ 𝕄) (iprop(emp) : sProp 𝕄))

/-! ## The core's own memory and semaphores -/

/-- The scalar memory the ids go to. -/
abbrev wordsR (u : Fin τ.nSC) : DevRef τ sig := ((S d u : Thread nD τ).loc cc0_scratch0).2
abbrev wordsL (u : Fin τ.nSC) : Loc nD τ sig := (S d u : Thread nD τ).loc cc0_scratch0

theorem ownBufs_S : (ownBufs (S d u) : sProp 𝕄)
    = (iprop((∃ f : Buf (Elt F) (wordsL d u), wordsL d u ↦{fullShare} f)
        ∗ bigSep ((ownRefs (S d u : Thread nD τ).2).erase (wordsR d u)) fun b => iprop(∃ f, ((d, b) : Loc nD τ sig) ↦{fullShare} f)) : sProp 𝕄) := by
  unfold ownBufs
  exact SparseCore.bigSep_erase' (i := wordsR d u) (mem_ownRefs.mpr rfl)

abbrev cellOf (sm : DmaSem sig) : GSem nD τ sig := ((S d u : Thread nD τ), SemLoc.dma sm)

abbrev otherCells : Finset (GSem nD τ sig) :=
  (((ownCells (S d u)).erase (cellOf d u cc0_scratch1.sem)).erase (cellOf d u cc0_scratch2.sem)).erase (cellOf d u cc0_scoped0.sem)

theorem ownSems0_S : (ownSems0 (S d u) : sProp 𝕄)
    = iprop(semVal (cellOf d u cc0_scratch1.sem) 0 ∗ semVal (cellOf d u cc0_scratch2.sem) 0 ∗ semVal (cellOf d u cc0_scoped0.sem) 0
        ∗ bigSep (otherCells d u) fun g => semVal g 0) := by
  unfold SparseCore.Cfg.ownSems0
  rw [SparseCore.bigSep_erase' (i := cellOf d u cc0_scratch1.sem)
      (mem_ownCells.mpr ⟨rfl, by show (SemLoc.dma cc0_scratch1.sem : SemLoc sig).isScoped .scScalar = true; decide⟩),
    SparseCore.bigSep_erase' (i := cellOf d u cc0_scratch2.sem)
      (Finset.mem_erase.mpr ⟨fun h => absurd (Prod.mk.inj h).2 (by decide),
        mem_ownCells.mpr ⟨rfl, by show (SemLoc.dma cc0_scratch2.sem : SemLoc sig).isScoped .scScalar = true; decide⟩⟩),
    SparseCore.bigSep_erase' (i := cellOf d u cc0_scoped0.sem)
      (Finset.mem_erase.mpr ⟨fun h => absurd (Prod.mk.inj h).2 (by decide), Finset.mem_erase.mpr ⟨fun h => absurd (Prod.mk.inj h).2 (by decide),
        mem_ownCells.mpr ⟨rfl, by show (SemLoc.dma cc0_scoped0.sem : SemLoc sig).isScoped .scScalar = true; decide⟩⟩⟩)]

/-! ## The kernel at each SparseCore -/

variable [FloatOps F]

theorem cond_zero (L : grid0.Coords) (h : (L 0).val = 0) : k0_cond1 L = 1#1 := by
  unfold k0_cond1; rw [h]; decide
theorem cond_one (L : grid0.Coords) (h : (L 0).val = 1) : ¬ k0_cond1 L = 1#1 := by
  unfold k0_cond1; rw [h]; decide

abbrev gatherAt (L : grid0.Coords) := cc0__gather_body (F := F) L idsM (Memref.isWhole_whole _) gammaM (Memref.isWhole_whole _) betaM (Memref.isWhole_whole _)
  gammaO (Memref.isWhole_whole _) betaO (Memref.isWhole_whole _) wordsM (Memref.isWhole_whole _) cc0_scratch1 cc0_scratch2 cc0_scoped0

variable (L : grid0.Coords) (O : CellTallies nD τ sig (HIx 1)) (W : Waits sig (HIx 1))

theorem gather_first (hr : InRange m) (hO : ∀ g, O g none = 0) (h0 : (L 0).val = 0) :
    iprop(levAts (K (F := F)).L (K (F := F)).lev ∗ emp ∗ toCore m d ∗ scopedBufs (S d (cr L)) ∗ scopedSems0 (S d (cr L)) ∗ owes (S d (cr L)) O W)
      ⊢ wp frame (wpE (defs₀ (F := F)) 𝒱₀ (S d (cr L)) none) Set.univ (gatherAt L)
          fun _ => (iprop(ofCore m d ∗ scopedBufs (S d (cr L)) ∗ scopedSems0 (S d (cr L))
            ∗ ∃ W', ⌜∀ p ∈ W', p ∈ W ∨ p.2 = none⌝ ∗ owes (S d (cr L)) O W') : sProp 𝕄) := by
  unfold toCore
  iintro ⟨#Hlv, -, ⟨Hi, Hg, Hb, ⟨%f4, H4⟩, %f5, H5⟩, Hsb, Hss, HO⟩
  ihave Hsb := ((K (F := F)).scopedBufs_S_elim facts d (cr L)) $$ Hsb
  icases Hsb with ⟨Hown, Hvb⟩
  ihave Hown := (Entails.of_eq (ownBufs_S (F := F) d (cr L))) $$ Hown
  icases Hown with ⟨⟨%f6, H6⟩, Hob⟩
  ihave Hss := (SparseCore.Cfg.scopedSems0_S_elim (Val := Elt F) d (cr L)) $$ Hss
  icases Hss with ⟨Hos, Hvs⟩
  ihave Hos := (Entails.of_eq (ownSems0_S (F := F) d (cr L))) $$ Hos
  icases Hos with ⟨Hz1, Hz2, Hz3, Hrest⟩
  ihave Hwp := (wp_gather d L (cond_zero L h0) O W hO (m (idsL d)) (hr d) (m (gamL d)) (m (betL d)) f4 f5 f6) $$ [Hi Hg Hb H4 H5 H6 Hz1 Hz2 Hz3 HO]
  · isplitr; · iexact Hlv
    isplitl [Hi]; · iexact Hi
    isplitl [Hg]; · iexact Hg
    isplitl [Hb]; · iexact Hb
    isplitl [H4]; · iexact H4
    isplitl [H5]; · iexact H5
    isplitl [H6]; · iexact H6
    isplitl [Hz1]; · iexact Hz1
    isplitl [Hz2]; · iexact Hz2
    isplitl [Hz3]; · iexact Hz3
    iexact HO
  iapply (wp_wand frame _ _) $$ Hwp
  iintro %_ ⟨Hi, Hg, Hb, ⟨%g4, %hg4, H4⟩, ⟨%g5, %hg5, H5⟩, H6, Hz1, Hz2, Hz3, HO⟩
  isplitl [Hi Hg Hb H4 H5]
  · unfold ofCore
    isplitl [Hi]; · iexact Hi
    isplitl [Hg]; · iexact Hg
    isplitl [Hb]; · iexact Hb
    isplitl [H4]
    · iexists g4
      isplitr; · ipureintro; exact picked_gamma d (cr L) (m (idsL d)) (hr d) hg4
      iexact H4
    · iexists g5
      isplitr; · ipureintro; exact picked_beta d (cr L) (m (idsL d)) (hr d) hg5
      iexact H5
  isplitl [H6 Hob Hvb]
  · iapply ((K (F := F)).scopedBufs_S_intro facts d (cr L))
    isplitl [H6 Hob]
    · iapply (Entails.of_eq (ownBufs_S (F := F) d (cr L)).symm)
      isplitl [H6]; · iexact H6
      iexact Hob
    iexact Hvb
  isplitl [Hz1 Hz2 Hz3 Hrest Hvs]
  · iapply (SparseCore.Cfg.scopedSems0_S_intro (Val := Elt F) d (cr L))
    isplitl [Hz1 Hz2 Hz3 Hrest]
    · iapply (Entails.of_eq (ownSems0_S (F := F) d (cr L)).symm)
      isplitl [Hz1]; · iexact Hz1
      isplitl [Hz2]; · iexact Hz2
      isplitl [Hz3]; · iexact Hz3
      iexact Hrest
    iexact Hvs
  iexact HO

theorem gather_second (h0 : (L 0).val = 1) :
    iprop(levAts (K (F := F)).L (K (F := F)).lev ∗ emp ∗ emp ∗ scopedBufs (S d (cr L)) ∗ scopedSems0 (S d (cr L)) ∗ owes (S d (cr L)) O W)
      ⊢ wp frame (wpE (defs₀ (F := F)) 𝒱₀ (S d (cr L)) none) Set.univ (gatherAt L)
          fun _ => (iprop(emp ∗ scopedBufs (S d (cr L)) ∗ scopedSems0 (S d (cr L))
            ∗ ∃ W', ⌜∀ p ∈ W', p ∈ W ∨ p.2 = none⌝ ∗ owes (S d (cr L)) O W') : sProp 𝕄) := by
  rw [gatherAt, cc0__gather_body_eq_skeleton]
  unfold cc0__gather_body_skel
  rw [dif_neg (cond_one L h0)]
  simp only [Prog.pure_eq_ret]
  iintro ⟨-, -, -, Hsb, Hss, HO⟩
  rw [wp_ret]; imodintro
  isplitr; · iempintro
  isplitl [Hsb]; · iexact Hsb
  isplitl [Hss]; · iexact Hss
  iexists W
  isplitr; · ipureintro; exact fun p hp => Or.inl hp
  iexact HO

theorem gather_any (hr : InRange m) (hO : ∀ g, O g none = 0) :
    iprop(levAts (K (F := F)).L (K (F := F)).lev ∗ emp ∗ atCore (L 0).val (toCore m d) ∗ scopedBufs (S d (cr L)) ∗ scopedSems0 (S d (cr L)) ∗ owes (S d (cr L)) O W)
      ⊢ wp frame (wpE (defs₀ (F := F)) 𝒱₀ (S d (cr L)) none) Set.univ (gatherAt L)
          fun _ => (iprop(atCore (L 0).val (ofCore m d) ∗ scopedBufs (S d (cr L)) ∗ scopedSems0 (S d (cr L))
            ∗ ∃ W', ⌜∀ p ∈ W', p ∈ W ∨ p.2 = none⌝ ∗ owes (S d (cr L)) O W') : sProp 𝕄) := by
  have hL : (L 0).val < 2 := (L 0).isLt
  rcases (show (L 0).val = 0 ∨ (L 0).val = 1 by omega) with h | h
  · rw [h]
    exact gather_first d m L O W hr hO h
  · rw [h]
    exact gather_second d L O W h

/-- The grid's point at SparseCore `c`. -/
def pointAt (c : Fin (grid0.bound 0)) : grid0.Coords := fun a => match a with | ⟨0, _⟩ => c

theorem defs₀_gather (c : Fin τ.nSC) :
    defs₀ (F := F) (.scScalar c) 0 () = SparseCore.onCore hcore0 (fun c => gatherAt (pointAt c)) ⟨⟩ c := rfl

/-- The launch theorem's obligation for the call. -/
theorem scalarObl (hr : InRange m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_gather]
  simp only [SparseCore.onCore, hc, ↓reduceDIte]
  refine (gather_any d m (pointAt ⟨_, hc⟩) O W hr hO).trans (wp_mono frame _ _ fun _ => ?_)
  iintro ⟨HA, HB, HC, %W', %hW', HO⟩
  isplitl [HA]
  · iapply (Entails.of_eq (show (atCore c.val (ofCore m d) : sProp 𝕄) = (P m).dn 0 d c from rfl)); iexact HA
  isplitl [HB]; · iexact HB
  isplitl [HC]; · iexact HC
  iexists W'
  isplitr
  · ipureintro; exact fun p hp => (hW' p hp).imp_right Or.inl
  iexact HO

end Cert.Proof.Film
-- ==== Proof.Run.lean ====
/-
  The host program on the TensorCore — the call of the gather, the first dense kernel, the copy of its result, the second
  dense kernel — and the run of the whole program.
-/
module

public import proofs.«01_k».proof.Proof.Call

@[expose] public section

noncomputable section

namespace Cert.Proof.Film

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ)
variable (ρ : Dev nD → PrngReg)

/-! ## The launch's ghost state -/

theorem phinj : Function.Injective (Pipeline.cellOf (nD := nD) (τ := τ) (Pipeline.pin (pcfgs (F := F)) adm)) := cellOf_inj

/-- What device `d`'s TensorCore is dealt for its two dense kernels. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem ownU_split (a : UH) (b : UP) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem Px (thr : Thread nD τ) : (bigSep Finset.univ fun q : Fin 1 => (P (F := F) m).x q thr) = iprop(emp) :=
  bigSep_univ_of_subsingleton (0 : Fin 1)
theorem none_held : (bigSep Finset.univ fun _ : Thread nD τ => iprop(emp)) = (iprop(emp) : sProp 𝕄) := bigSep_emp_const _

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP phinj) $$ HP with ⟨Hc, Ht⟩
  imodintro
  isplitl [HH]; · iexact HH
  isplitl [Hc Ht]
  · unfold G
    rw [bigSep_sep']
    isplitl [Hc]; · iexact Hc
    iexact Ht
  · simp only [Px, none_held]
    iempintro

/-! ## The arrays the TensorCore holds -/

theorem unscopedBufs_eq (d : Dev nD) (W : (b : Ref sig .tc) → Buf (Elt F) ((d.tc : Thread nD τ).loc b)) :
    (unscopedBufs d W : sProp 𝕄)
      = iprop(pt d main_arg0 (W main_arg0) ∗ pt d main_arg1 (W main_arg1) ∗ pt d main_arg2 (W main_arg2) ∗ pt d main_arg3 (W main_arg3)
        ∗ pt d main_v0_0 (W main_v0_0) ∗ pt d main_v0_1 (W main_v0_1) ∗ pt d main_v1 (W main_v1) ∗ pt d main_v2 (W main_v2)) := by
  unfold unscopedBufs
  rw [show (Finset.univ.filter fun b : Ref sig .tc => ¬ b.isScoped)
      = {main_arg0, main_arg1, main_arg2, main_arg3, main_v0_0, main_v0_1, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The call -/

theorem st0_eq (d : Dev nD) : (bigSep Finset.univ fun c : Fin ((K (F := F)).nCore 0) => (P m).st 0 d c) = iprop(toCore m d ∗ emp) :=
  (BI.bigSep_fin_two (fun c : Fin 2 => (atCore c.val (toCore m d) : sProp 𝕄))).trans rfl
theorem dn0_eq (d : Dev nD) : (bigSep Finset.univ fun c : Fin ((K (F := F)).nCore 0) => (P m).dn 0 d c) = iprop(ofCore m d ∗ emp) :=
  (BI.bigSep_fin_two (fun c : Fin 2 => (atCore c.val (ofCore m d) : sProp 𝕄))).trans rfl

/-! ## The copy between the dense kernels -/

abbrev r1 : DevRef τ sig := Proc.devRef .tc (main_v1 : Ref sig .tc)
abbrev r2 : DevRef τ sig := Proc.devRef .tc (main_v2 : Ref sig .tc)
abbrev opCopy : HloOp τ sig (Elt F) := StableHlo.unary main_v1 main_v2 id
abbrev S2 : Finset (DevRef τ sig) := {r1, r2}
theorem hCopy : (opCopy (F := F)).bufs ⊆ S2 := show ({r1, r2} : Finset (DevRef τ sig)) ⊆ S2 by decide

theorem held_S2 (d : Dev nD) (W : Valuation τ sig (Elt F)) :
    (held (T d) S2 W : sProp 𝕄) = iprop(pt d main_v1 (W r1) ∗ pt d main_v2 (W r2)) := by
  unfold held S2
  rw [SparseCore.bigSep_insert' (by decide), bigSep_singleton]

/-- The two buffers' contents as a valuation. -/
def V2 (d : Dev nD) (f1 : Buf (Elt F) ((d.tc : Thread nD τ).loc main_v1)) (f2 : Buf (Elt F) ((d.tc : Thread nD τ).loc main_v2)) : Valuation τ sig (Elt F) :=
  Function.update (Function.update (fun b => m (d, b)) r1 f1) r2 f2

theorem held_before (d : Dev nD) (f1 : Buf (Elt F) ((d.tc : Thread nD τ).loc main_v1)) (f2 : Buf (Elt F) ((d.tc : Thread nD τ).loc main_v2)) :
    (held (T d) S2 (V2 m d f1 f2) : sProp 𝕄) = iprop(pt d main_v1 f1 ∗ pt d main_v2 f2) := by
  rw [held_S2]
  unfold V2
  rw [Function.update_self, Function.update_of_ne (show r1 ≠ r2 by decide), Function.update_self]

theorem held_after (d : Dev nD) (f1 : Buf (Elt F) ((d.tc : Thread nD τ).loc main_v1)) (f2 : Buf (Elt F) ((d.tc : Thread nD τ).loc main_v2)) :
    (held (T d) S2 ((opCopy (F := F)).result (V2 m d f1 f2)) : sProp 𝕄) = iprop(pt d main_v1 f1 ∗ pt d main_v2 f1) := by
  rw [held_S2, show (opCopy (F := F)).result (V2 m d f1 f2) r2 = V2 m d f1 f2 r1 from StableHlo.unary_result _ _ _ _ _ _,
    show (opCopy (F := F)).result (V2 m d f1 f2) r1 = V2 m d f1 f2 r1 from
      (opCopy (F := F)).result_of_not_mem _ (show r1 ∉ ({r2} : Finset (DevRef τ sig)) by decide)]
  unfold V2
  rw [Function.update_of_ne (show r1 ≠ r2 by decide), Function.update_self]

/-! ## The host program -/

/-- The launch contents of a buffer on each device. -/
abbrev at0 (b : Ref sig .tc) : Bf (F := F) b := fun c => m ((c.tc : Thread nD τ).loc b)

abbrev Tab : Type := S4x1024.Idx → Elt F .f32
abbrev Big : Type := S4x4096x1024.Idx → Elt F .f32

/-- What is made of the result: the tables' rows picked, the first kernel's chunks over the launch contents of its
    result, the second's over those. -/
def Out (d : Dev nD) (f : Buf (Elt F) ((d.tc : Thread nD τ).loc main_v2)) : Prop :=
  ∃ (tg tb : S4x1024.Idx → Elt F .f32) (f1 : S4x4096x1024.Idx → Elt F .f32),
    Picked (F := F) (m (idsL d)) (m (gamL d)) tg ∧ Picked (F := F) (m (idsL d)) (m (betL d)) tb
    ∧ Done1 (at0 m main_arg1) (at0 m main_arg2) (at0 m main_arg3) (at0 m main_arg0) (at0 m main_v1) d f1
    ∧ Done2 (fun _ => tg) (fun _ => tb) (at0 m main_arg0) (fun _ => f1) d f

/-- What the host program leaves: the arguments as they were, the result as made. -/
def FIN (d : Dev nD) : sProp 𝕄 :=
  iprop(pt d main_arg0 (m ((d.tc : Thread nD τ).loc main_arg0)) ∗ pt d main_arg1 (m ((d.tc : Thread nD τ).loc main_arg1))
    ∗ pt d main_arg2 (m ((d.tc : Thread nD τ).loc main_arg2)) ∗ pt d main_arg3 (m ((d.tc : Thread nD τ).loc main_arg3))
    ∗ ∃ f, ⌜Out m d f⌝ ∗ pt d main_v2 f)

/-- The waits a thread that has seen the call through may have made. -/
def seen : Dev nD → Set (SemLoc sig × HIx 1) := fun d => {p | (K (F := F)).lev (T d, p.1) p.2 ≤ 8 * SparseCore.Cfg.Blocks.fst (Q := 1) (N := 1) 1}
theorem seen_none (c : Dev nD) (sm : SemLoc sig) : (sm, none) ∈ seen (F := F) c := Nat.zero_le _

/-- Dense kernel 0 in the host program. -/
theorem wp_region1 (d : Dev nD) (B : Dev nD → Set (SemLoc sig × HIx 1)) (hB : ∀ c sm, (sm, none) ∈ B c) (fi : Bf (F := F) main_arg1) (fg : Bf (F := F) main_arg2)
    (fb : Bf (F := F) main_arg3) (fx : Bf (F := F) main_arg0) (fo : Bf (F := F) main_v1) {Q : PUnit → sProp 𝕄} [∀ e, Nonempty (Elt F e)] :
    iprop((iprop(boundary (T d) ∗ (reg1 B hB fi fg fb fx fo).post d) -∗ Q ⟨⟩)
        ∗ boundary (T d) ∗ (reg1 B hB fi fg fb fx fo).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.op (.customCall (SparseCore.inner (Pipeline.entry (0 : Fin 2))) ()) .ret) Q := by
  refine BI.Entails.trans ?_ ((K (F := F)).wp_liftProg (D (F := F)) 𝒱 (T d) Set.univ none (.op (.customCall (Pipeline.entry (0 : Fin 2)) ()) .ret) Q)
  refine BI.Entails.trans ?_ (Pipeline.RegionSeg.wp (pcfgs (F := F)) adm (pdats1 B fi fg fb fx fo) none phinj EP defs₀ 𝒱₀ (K (F := F)).L (K (F := F)).lev
    (reg1 B hB fi fg fb fx fo) d none (fun _ h => nomatch h) .ret Q)
  change _ ⊢ (_ : sProp 𝕄)
  iintro ⟨Hk, Hr⟩
  isplitl [Hk]
  · iintro H
    rw [wp_ret]; imodintro
    iapply Hk; iexact H
  iexact Hr

theorem wp_region2 (d : Dev nD) (B : Dev nD → Set (SemLoc sig × HIx 1)) (hB : ∀ c sm, (sm, none) ∈ B c) (fg : Bf (F := F) main_v0_0)
    (fb : Bf (F := F) main_v0_1) (fx : Bf (F := F) main_arg0) (fo : Bf (F := F) main_v2) {Q : PUnit → sProp 𝕄} [∀ e, Nonempty (Elt F e)] :
    iprop((iprop(boundary (T d) ∗ (reg2 B hB fg fb fx fo).post d) -∗ Q ⟨⟩)
        ∗ boundary (T d) ∗ (reg2 B hB fg fb fx fo).pre d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.op (.customCall (SparseCore.inner (Pipeline.entry (1 : Fin 2))) ()) .ret) Q := by
  refine BI.Entails.trans ?_ ((K (F := F)).wp_liftProg (D (F := F)) 𝒱 (T d) Set.univ none (.op (.customCall (Pipeline.entry (1 : Fin 2)) ()) .ret) Q)
  refine BI.Entails.trans ?_ (Pipeline.RegionSeg.wp (pcfgs (F := F)) adm (pdats2 B fg fb fx fo) none phinj EP defs₀ 𝒱₀ (K (F := F)).L (K (F := F)).lev
    (reg2 B hB fg fb fx fo) d none (fun _ h => nomatch h) .ret Q)
  change _ ⊢ (_ : sProp 𝕄)
  iintro ⟨Hk, Hr⟩
  isplitl [Hk]
  · iintro H
    rw [wp_ret]; imodintro
    iapply Hk; iexact H
  iexact Hr

theorem bigSep_pair (Φ : Fin 2 → sProp 𝕄) : (bigSep Finset.univ Φ) = iprop(Φ 0 ∗ Φ 1) := BI.bigSep_fin_two Φ

/-- After the call the TensorCore owes nothing. -/
theorem owes_end (d : Dev nD) (W : Waits sig (HIx 1)) :
    (owes (T d) ((K (F := F)).Otc d ((0 : Fin 1).val + 1)) W : sProp 𝕄) = owes (T d) 0 W := by
  rw [(K (F := F)).Otc_end d (n := (0 : Fin 1).val + 1) le_rfl]

/-- The host program. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [unscopedBufs_eq, bigSep_pair, bigSep_pair]
  simp only [main, wp_bind, wp_pure]
  iintro ⟨#Hctx, Hst, ⟨Hb, ⟨Hx, Hi, Hg, Hbe, Htg, Htb, H1, H2⟩, Hts, -⟩, ⟨Hc0, Hc1⟩, Ht0, Ht1⟩
  ihave #Hlv := ((K (F := F)).ctx_levAts κ) $$ Hctx
  -- the gather
  iapply ((K (F := F)).wp_run (D (F := F)) 𝒱 (EH := EH) (P := P m) κ d 0) $$ [Hst Hx Hi Hg Hbe Htg Htb H1 H2 Hb Hts Hc0 Hc1 Ht0 Ht1]
  isplitr; · iexact Hctx
  isplitl [Hst]; · iexact Hst
  isplitl [Hi Hg Hbe Htg Htb]
  · rw [st0_eq]
    unfold toCore
    isplitl
    · isplitl [Hi]; · iexact Hi
      isplitl [Hg]; · iexact Hg
      isplitl [Hbe]; · iexact Hbe
      isplitl [Htg]; · iexists _; iexact Htg
      iexists _; iexact Htb
    iempintro
  iintro ⟨Hst, Hdn⟩
  ihave Hdn' := (Entails.of_eq (dn0_eq m d)) $$ Hdn
  unfold ofCore
  icases Hdn' with ⟨⟨Hi, Hg, Hbe, ⟨%tg, %htg, Htg⟩, ⟨%tb, %htb, Htb⟩⟩, -⟩
  -- the first dense kernel
  unfold SparseCore.Cfg.tcSt
  icases Hst with ⟨⟨%W, %hW, HO⟩, Hat, Hrest⟩
  ihave HO := (Entails.of_eq (owes_end (F := F) d W)) $$ HO
  iapply (wp_region1 (F := F) d (seen (F := F)) (seen_none (F := F)) (at0 m main_arg1) (at0 m main_arg2) (at0 m main_arg3) (at0 m main_arg0) (at0 m main_v1))
  isplitr [Hb Hi Hg Hbe Hx H1 HO Hc0 Ht0]; swap
  · isplitl [Hb]; · iexact Hb
    isplitl [Hi Hg Hbe Hx H1 HO]
    · unfold reg1
      isplitl [Hi Hg Hbe]
      · isplitl [Hi]; · iexact Hi
        isplitl [Hg]; · iexact Hg
        iexact Hbe
      isplitl [Hx]; · iexact Hx
      isplitl [H1]; · iexact H1
      iexists W
      isplitr; · ipureintro; exact hW
      iexact HO
    isplitr; · iexact Hlv
    isplitl [Hc0]; · iexact Hc0
    iexact Ht0
  unfold reg1
  iintro ⟨Hb, ⟨Hi, Hg, Hbe⟩, Hx, ⟨%f1, %hf1, H1⟩, HO⟩
  -- the copy
  iapply (StableHlo.wp_hlo_within 𝒱 (SparseCore.T d) none Set.univ (op := opCopy) (S := S2) hCopy (V := V2 m d f1 (m ((d.tc : Thread nD τ).loc main_v2)))) $$ [Hb H1 H2]
  · isplitl [Hb]; · iexact Hb
    rw [held_before]
    isplitl [H1]; · iexact H1
    iexact H2
  iintro ⟨Hb, Hheld⟩
  ihave Hh := (Entails.of_eq (held_after (F := F) m d f1 _)) $$ Hheld
  icases Hh with ⟨H1, H2⟩
  rw [wp_ret]; imodintro
  -- the second dense kernel
  iapply (wp_region2 (F := F) d (seen (F := F)) (seen_none (F := F)) (fun _ => tg) (fun _ => tb) (at0 m main_arg0) (fun _ => f1))
  isplitr [Hb Htg Htb Hx H2 HO Hc1 Ht1]; swap
  · isplitl [Hb]; · iexact Hb
    isplitl [Htg Htb Hx H2 HO]
    · unfold reg2
      isplitl [Htg Htb]
      · isplitl [Htg]; · iexact Htg
        iexact Htb
      isplitl [Hx]; · iexact Hx
      isplitl [H2]; · iexact H2
      iexact HO
    isplitr; · iexact Hlv
    isplitl [Hc1]; · iexact Hc1
    iexact Ht1
  unfold reg2
  iintro ⟨Hb, -, Hx, ⟨%f2, %hf2, H2⟩, ⟨%W', %hW', HO⟩⟩
  imodintro
  isplitl [HO Hat Hrest]
  · isplitl [HO]
    · iexists W'
      isplitr; · ipureintro; exact hW'
      iapply (Entails.of_eq (owes_end (F := F) d W').symm); iexact HO
    isplitl [Hat]; · iexact Hat
    iexact Hrest
  isplitl [Hx Hi Hg Hbe H2]
  · unfold FIN
    isplitl [Hx]; · iexact Hx
    isplitl [Hi]; · iexact Hi
    isplitl [Hg]; · iexact Hg
    isplitl [Hbe]; · iexact Hbe
    iexists f2
    isplitr; · ipureintro; exact ⟨tg, tb, f1, htg, htb, hf1, hf2⟩
    iexact H2
  isplitl [Hb]; · iexact Hb
  iexact Hts

/-! ## The run of the whole program -/

abbrev lc (d : Dev nD) (b : Ref sig .tc) : Loc nD τ sig := (d.tc : Thread nD τ).loc b

/-- What is read of device `d`'s final memory. -/
def fq (d : Dev nD) (s : Phys nD τ sig (Elt F)) : Prop :=
  s.mem.mem (lc d main_arg0) = m (lc d main_arg0) ∧ s.mem.mem (lc d main_arg1) = m (lc d main_arg1)
    ∧ s.mem.mem (lc d main_arg2) = m (lc d main_arg2) ∧ s.mem.mem (lc d main_arg3) = m (lc d main_arg3)
    ∧ Out m d (s.mem.mem (lc d main_v2))

/-- A buffer held whole holds what the memory has there. -/
theorem read_whole (s : Phys nD τ sig (Elt F)) (d : Dev nD) (b : Ref sig .tc) (f : Buf (Elt F) (lc d b)) :
    iprop(SI s ∗ pt d b f) ⊢ (iprop(⌜s.mem.mem (lc d b) = f⌝ ∗ SI s) : sProp 𝕄) := by
  iintro H
  ihave H := (persistent_entails_right (SI_pointsTo_agree (st := s) (ℓ := lc d b) (I := Finset.univ) (q := fullShare) (f := f))) $$ H
  icases H with ⟨%h, HSI, -⟩
  isplitr
  · ipureintro; exact funext fun i => h i (Finset.mem_univ i)
  iexact HSI

theorem hfin (d : Dev nD) (s : Phys nD τ sig (Elt F)) : iprop(FIN m d ∗ SI s) ⊢ (⌜fq m d s⌝ : sProp 𝕄) := by
  unfold FIN
  iintro ⟨⟨Hx, Hi, Hg, Hb, %f, %hf, Ho⟩, HSI⟩
  ihave H := (read_whole s d main_arg0 _) $$ [HSI Hx]
  · isplitl [HSI] <;> iassumption
  icases H with ⟨%hx, HSI⟩
  ihave H := (read_whole s d main_arg1 _) $$ [HSI Hi]
  · isplitl [HSI] <;> iassumption
  icases H with ⟨%hi, HSI⟩
  ihave H := (read_whole s d main_arg2 _) $$ [HSI Hg]
  · isplitl [HSI] <;> iassumption
  icases H with ⟨%hg, HSI⟩
  ihave H := (read_whole s d main_arg3 _) $$ [HSI Hb]
  · isplitl [HSI] <;> iassumption
  icases H with ⟨%hb, HSI⟩
  ihave H := (read_whole s d main_v2 _) $$ [HSI Ho]
  · isplitl [HSI] <;> iassumption
  icases H with ⟨%ho, HSI⟩
  ipureintro
  exact ⟨hx, hi, hg, hb, ho ▸ hf⟩

/-- The program ends with the arguments as they were, the result made, and no semaphore left raised. -/
def QC : PUnit × MemSt nD τ sig (Elt F) → Prop := fun r =>
  (∀ d : Dev nD, r.2.mem (lc d main_arg0) = m (lc d main_arg0) ∧ r.2.mem (lc d main_arg1) = m (lc d main_arg1)
    ∧ r.2.mem (lc d main_arg2) = m (lc d main_arg2) ∧ r.2.mem (lc d main_arg3) = m (lc d main_arg3)
    ∧ Out m d (r.2.mem (lc d main_v2))) ∧ r.2.sem = fun _ => 0

theorem run_main [∀ e, Nonempty (Elt F e)] (hr : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hr)
    (fun q hq => match q with | 0 => nomatch hq)
    (fun q hq => match q with | 0 => nomatch hq)
    m ρ main G (FIN m) (u₀ (F := F)) (sep_elim_left.trans (hu₀ m)) (hmain m ρ) (fq m) (hfin m) (QC m) (fun _ h hz => ⟨h, hz⟩)

end Cert.Proof.Film
-- ==== Proof.Range.lean ====
/-
  The precondition read: every id names a row of the tables.
-/
module

public import proofs.«01_k».proof.Proof.Run
public import proofs.«01_k».proof.Proof.Gen.Pre_in_range
public import Idealize.ShloMosaic.Lib.ReduceAll

@[expose] public section

noncomputable section

namespace Cert.Proof.Film

open Cert.KernelIdeal Cert.KernelIdeal.Gen
open Idealize.ShloMosaic

/-- A word between 0 and 3 as a signed number is below 4 as a natural one. -/
theorem toNat_lt_of_signed {w : BitVec 32} (h0 : (0#32).sle w = true) (h4 : w.slt 4#32 = true) : w.toNat < 4 := by
  rw [BitVec.sle_iff_toInt_le] at h0
  rw [BitVec.slt_iff_toInt_lt] at h4
  have h0' : (0#32 : BitVec 32).toInt = 0 := rfl
  have h4' : (4#32 : BitVec 32).toInt = 4 := rfl
  rw [h4'] at h4
  rw [h0'] at h0
  rw [BitVec.toInt_eq_toNat_cond w] at h0 h4
  have := w.isLt
  split at h0 <;> omega

instance : Subsingleton Cert.Pre_in_range.S_.Idx := ⟨fun _ _ => funext fun a => a.elim0⟩

/-- Under the precondition every id is below 4. -/
theorem ids_lt {F : FTy → Type} [FloatOps F] [Cert.Pre_in_range.Facts] (a0 : FVec F Cert.Pre_in_range.S4x4096x1024 .f32) (a1 : IVec Cert.Pre_in_range.S4 32)
    (a2 a3 : FVec F Cert.Pre_in_range.S4x1024 .f32) (h : Cert.Pre_in_range.fn a0 a1 a2 a3 = fun _ => 1#1) (i : Cert.Pre_in_range.S4.Idx) : (a1 i).toNat < 4 := by
  have e := Host.reduce_andi_all _ _ _ _ (fun a => a.elim0) (congrFun h fun a => a.elim0) i
  obtain ⟨h1, h2⟩ := IntOp.andi_eq_one.1 e
  refine toNat_lt_of_signed ?_ ?_
  · have h1' : BitVec.ofBool ((0#32).sle (a1 i)) = 1#1 := h1
    revert h1'; cases (0#32).sle (a1 i) <;> decide
  · have h2' : BitVec.ofBool ((a1 i).slt 4#32) = 1#1 := h2
    revert h2'; cases (a1 i).slt 4#32 <;> decide

end Cert.Proof.Film
-- ==== Proof.Same.lean ====
/-
  The two printings of the kernel are one program: the ideal pass rewrote nothing. Each of the three bodies is compared on
  its own, then the tables of bodies, then the threads. What is proved of the one printing then holds of the other.
-/
module

public import proofs.«01_k».proof.Proof.Gen.Kernel.Skeleton
public import proofs.«01_k».proof.Proof.Gen.KernelIdeal.Skeleton

@[expose] public section

noncomputable section

namespace Cert.Proof.Film

open Idealize.ShloMosaic Idealize.SL.Sem

instance kernelFacts : Cert.Kernel.Facts := Cert.Kernel.Gen.facts
instance kernelIdealFacts : Cert.KernelIdeal.Facts := Cert.KernelIdeal.Gen.facts
variable {F : FTy → Type} [FloatOps F]

set_option maxRecDepth 65536 in
/-- The second dense kernel's bodies, opened, agree. -/
theorem second_same : Cert.Kernel.Gen.cc2__film2_body_skel (F := F) = Cert.KernelIdeal.Gen.cc2__film2_body_skel (F := F) := rfl
set_option maxRecDepth 65536 in
/-- The first dense kernel's bodies, opened, agree. -/
theorem first_same : Cert.Kernel.Gen.cc1__film1_body_skel (F := F) = Cert.KernelIdeal.Gen.cc1__film1_body_skel (F := F) := rfl
set_option maxRecDepth 65536 in
/-- The gathering bodies agree. -/
theorem gather_same : Cert.Kernel.cc0__gather_body (F := F) = Cert.KernelIdeal.cc0__gather_body (F := F) := rfl

theorem second_body : Cert.Kernel.cc2__film2_body (F := F) = Cert.KernelIdeal.cc2__film2_body (F := F) :=
  Cert.Kernel.Gen.cc2__film2_body_eq_skeleton.trans (second_same.trans Cert.KernelIdeal.Gen.cc2__film2_body_eq_skeleton.symm)
theorem first_body : Cert.Kernel.cc1__film1_body (F := F) = Cert.KernelIdeal.cc1__film1_body (F := F) :=
  Cert.Kernel.Gen.cc1__film1_body_eq_skeleton.trans (first_same.trans Cert.KernelIdeal.Gen.cc1__film1_body_eq_skeleton.symm)

/-- The tables of bodies agree. -/
theorem tables_same : Cert.Kernel.defs₀ (F := F) = Cert.KernelIdeal.defs₀ (F := F) := by
  funext p l a
  match p, l, a with
  | .tc, 1, (t, s) =>
    unfold Cert.Kernel.defs₀
    dsimp only
    rw [first_body]
    rfl
  | .tc, 2, (t, s) =>
    unfold Cert.Kernel.defs₀
    dsimp only
    rw [second_body]
    rfl
  | .scScalar c, 0, _ =>
    unfold Cert.Kernel.defs₀
    dsimp only
    rw [gather_same]
    rfl
  | .tc, 0, _ => rfl
  | .scScalar c, 1, _ => rfl
  | .scScalar c, 2, _ => rfl
  | .scVector c i, 0, _ => rfl
  | .scVector c i, 1, _ => rfl
  | .scVector c i, 2, _ => rfl

/-- So do the tables the launches extend them to. -/
theorem defs_same : Cert.Kernel.defs (F := F) = Cert.KernelIdeal.defs (F := F) :=
  congrArg (fun d => Cert.KernelIdeal.sc.defs (Pipeline.defs Cert.KernelIdeal.pcfgs d)) tables_same

/-- The threads agree. -/
theorem threads_same : Cert.Kernel.threads (F := F) = Cert.KernelIdeal.threads (F := F) := rfl

/-- A run of the one printing is a run of the other. -/
theorem run_same {s : MemSt Cert.KernelIdeal.nD Cert.KernelIdeal.τ Cert.KernelIdeal.sig (Elt F)} {Q}
    (h : θ_run (Cert.KernelIdeal.defs (F := F)) (Cert.KernelIdeal.threads (F := F)) s Q) :
    θ_run (Cert.Kernel.defs (F := F)) (Cert.Kernel.threads (F := F)) s Q :=
  (congrArg (fun d => θ_run d (Cert.KernelIdeal.threads (F := F)) s Q) defs_same).mpr h

end Cert.Proof.Film

end
-- ==== Proof.Block.lean ====
/-
  What the dense kernels compute of a chunk, element by element: the row scaled and shifted, and, over the extended
  reals, the row that the first kernel picks out of a table by a sum against zeros.
-/
module

public import proofs.«01_k».proof.Proof.Run
public import Idealize.ShloMosaic.Lib.Pipeline.Value
public import Idealize.ShloMosaic.PureOps.Ideal.Laws

@[expose] public section

noncomputable section

namespace Cert.Proof.Film

open Cert.KernelIdeal Cert.KernelIdeal.Gen
open Idealize.ShloMosaic

/-! ## Indices -/

/-- Element `k` of a row. -/
def kIx (k : Fin 1024) : S1024.Idx := fun a => match a with | ⟨0, _⟩ => k
/-- Element `k` of row `r` of a chunk. -/
def pIx (r : Fin 512) (k : Fin 1024) : S512x1024.Idx := fun a => match a with | ⟨0, _⟩ => r | ⟨1, _⟩ => k
/-- The same, in a chunk as the ring keeps it. -/
def cIx (r : Fin 512) (k : Fin 1024) : S1x512x1024.Idx :=
  fun a => match a with | ⟨0, _⟩ => ⟨0, Nat.one_pos⟩ | ⟨1, _⟩ => r | ⟨2, _⟩ => k
/-- Element `k` of row `s` of batch `b` of an array shaped like `x`. -/
def xIx (b : Fin 4) (s : Fin 4096) (k : Fin 1024) : S4x4096x1024.Idx :=
  fun a => match a with | ⟨0, _⟩ => b | ⟨1, _⟩ => s | ⟨2, _⟩ => k
/-- Element `i` of a column of four. -/
def uIx (i : Fin 4) : S4x1.Idx := fun a => match a with | ⟨0, _⟩ => i | ⟨1, _⟩ => ⟨0, Nat.one_pos⟩

section Any
variable {F : FTy → Type} [FloatOps F]

/-- A row laid over a chunk. -/
theorem laid (g : FVec F S1024 .f32) (r : Fin 512) (k : Fin 1024) :
    broadcastTo S512x1024 (shapeCast S1x1024 g shapeCasts_S1024_S1x1024) broadcasts_S1x1024_S512x1024 (pIx r k) = g (kIx k) := by
  refine (broadcastTo_apply _ _ (pIx r k) (rIx k) (fun a => ?_)).trans ?_
  · match a with
    | ⟨0, _⟩ => rfl
    | ⟨1, _⟩ => rfl
  · refine shapeCast_apply _ _ (rIx k) (kIx k) ?_
    rw [Shape.rowMajor_val_one, Shape.rowMajor_val_two]
    show k.val = 0 * 1024 + k.val
    omega

/-- A chunk scaled and shifted, element by element. -/
theorem affine_apply (g b : FVec F S1024 .f32) (v : Vec F S1x512x1024 .f32) (r : Fin 512) (k : Fin 1024) :
    affine g b v (cIx r k) = FloatOps.addf (φ := .f32) (FloatOps.mulf (g (kIx k)) (v (cIx r k))) (b (kIx k)) := by
  unfold affine
  refine (shapeCast_apply _ _ (cIx r k) (pIx r k) ?_).trans ?_
  · rw [Shape.rowMajor_val_two, Shape.rowMajor_val_three]
    show r.val * 1024 + k.val = (0 * 512 + r.val) * 1024 + k.val
    omega
  show FloatOps.addf (FloatOps.mulf (broadcastTo S512x1024 (shapeCast S1x1024 g shapeCasts_S1024_S1x1024) broadcasts_S1x1024_S512x1024 (pIx r k))
      (shapeCast S512x1024 v shapeCasts_S1x512x1024_S512x1024 (pIx r k)))
    (broadcastTo S512x1024 (shapeCast S1x1024 b shapeCasts_S1024_S1x1024) broadcasts_S1x1024_S512x1024 (pIx r k)) = _
  rw [laid, laid, shapeCast_apply v _ (pIx r k) (cIx r k) ?_]
  rw [Shape.rowMajor_val_two, Shape.rowMajor_val_three]
  show (0 * 512 + r.val) * 1024 + k.val = r.val * 1024 + k.val
  omega

/-- A table's only row read, as a row, element by element. -/
theorem flat_apply (v : Vec F S1x1024 .f32) (k : Fin 1024) : flat v (kIx k) = v (rIx k) := by
  unfold flat
  refine shapeCast_apply _ _ (kIx k) (rIx k) ?_
  rw [Shape.rowMajor_val_one, Shape.rowMajor_val_two]
  show 0 * 1024 + k.val = k.val
  omega

/-- The bit by which row `i` is kept. -/
theorem keep_apply (w : Elt F .i32) (i : Fin 4) (k : Fin 1024) :
    broadcastTo S4x1024 (shapeCast S4x1 (cmpi .eq (iota .tc S4x1 32 [0] iota_S4x1_d0_w32) (broadcast S4x1 w)) shapeCasts_S4x1_S4x1) broadcasts_S4x1_S4x1024 (tIx i k)
      = IntOp.cmpi .eq (BitVec.ofNat 32 i.val) w := by
  refine (broadcastTo_apply _ _ (tIx i k) (uIx i) (fun a => ?_)).trans ?_
  · match a with
    | ⟨0, _⟩ => rfl
    | ⟨1, _⟩ => rfl
  · rw [shapeCast_self]
    show IntOp.cmpi .eq (iota .tc S4x1 32 [0] iota_S4x1_d0_w32 (uIx i)) w = _
    rw [iota_single_apply]
    rfl

end Any

/-- The row picked by a sum against zeros is the row that the word names. -/
theorem pick_apply (w : Elt Ideal .i32) (t : Vec Ideal S4x1024 .f32) (n : Fin 4) (hw : (w : BitVec 32).toNat = n.val) (k : Fin 1024) :
    pick w t (kIx k) = t (tIx n k) := by
  have hl : ∀ i : Fin 4, reduces_S4x1024_S1024.lift (kIx k) i = tIx i k := fun i => by
    funext a
    match a with
    | ⟨0, _⟩ => rfl
    | ⟨1, _⟩ => rfl
  have ht : ∀ i : Fin 4, select (broadcastTo S4x1024 (shapeCast S4x1 (cmpi .eq (iota .tc S4x1 32 [0] iota_S4x1_d0_w32) (broadcast S4x1 w)) shapeCasts_S4x1_S4x1) broadcasts_S4x1_S4x1024)
      t (broadcast S4x1024 (Scalar.ofBits .f32 0x00000000#32 : Ideal .f32)) (reduces_S4x1024_S1024.lift (kIx k) i)
      = if i = n then t (tIx n k) else (0 : EReal) := fun i => by
    rw [hl]
    show Scalar.select (broadcastTo S4x1024 _ broadcasts_S4x1_S4x1024 (tIx i k)) (t (tIx i k)) (Scalar.ofBits .f32 0x00000000#32 : Ideal .f32) = _
    rw [keep_apply]
    have hb : IntOp.cmpi .eq (BitVec.ofNat 32 i.val) w = if i = n then 1#1 else 0#1 := by
      show BitVec.ofBool (BitVec.ofNat 32 i.val == w) = _
      have hi := i.isLt
      by_cases h : i = n
      · rw [if_pos h, show w = BitVec.ofNat 32 i.val from BitVec.eq_of_toNat_eq (by rw [hw, BitVec.toNat_ofNat, h]; omega), beq_self_eq_true]; rfl
      · rw [if_neg h, beq_eq_false_iff_ne.2 (fun e => h (Fin.ext (by rw [← hw, ← e, BitVec.toNat_ofNat]; omega)))]; rfl
    rw [hb]
    by_cases h : i = n
    · rw [if_pos h, if_pos h, h]; rfl
    · rw [if_neg h, if_neg h]; exact Ideal.ofBits_zero_f32
  refine (Ideal.multiReduction_add_single _ _ reduces_S4x1024_S1024 _ _ (kIx k)).trans ?_
  refine (Finset.sum_congr rfl fun i _ => ht i).trans ?_
  exact (Finset.sum_ite_eq' Finset.univ n fun _ => t (tIx n k)).trans (if_pos (Finset.mem_univ n))

end Cert.Proof.Film

end
-- ==== Proof.Value.lean ====
/-
  What the kernel leaves of its result, element by element, over the extended reals: the row of gamma that the batch's id
  names times `x`, plus the row of beta.
-/
module

public import proofs.«01_k».proof.Proof.Block

@[expose] public section

noncomputable section

namespace Cert.Proof.Film

open Cert.KernelIdeal Cert.KernelIdeal.Gen
open Idealize.ShloMosaic

section Any
variable {F : FTy → Type} [FloatOps F] (c : Dev nD)

/-! ## Where the reads land -/

/-- Row `r` of chunk `j` lies at row `512 * (j % 8) + r` of batch `j / 8`. -/
abbrev rowOf (j : Fin 32) (r : Fin 512) : Fin 4096 := ⟨512 * (j.val % 8) + r.val, by have := r.isLt; omega⟩

/-- The same as an index of the whole array. -/
theorem chRect_emb (j : Fin 32) (r : Fin 512) (k : Fin 1024) : (chRect j).emb (cIx r k) = xIx (bt j) (rowOf j r) k := by
  funext a
  apply Fin.ext
  match a with
  | ⟨0, _⟩ => show j.val / 8 + 1 * 0 = j.val / 8; omega
  | ⟨1, _⟩ => show 512 * (j.val % 8) + 1 * r.val = 512 * (j.val % 8) + r.val; omega
  | ⟨2, _⟩ => show 0 + 1 * k.val = k.val; omega

theorem rows_x (f : S4x4096x1024.Idx → Elt F .f32) (j : Fin 32) (r : Fin 512) (k : Fin 1024) :
    rows c (Memref.whole main_arg0) f j (cIx r k) = f (xIx (bt j) (rowOf j r) k) := by
  rw [← chRect_emb]; rfl
theorem rows_1 (f : S4x4096x1024.Idx → Elt F .f32) (j : Fin 32) (r : Fin 512) (k : Fin 1024) :
    rows c (Memref.whole main_v1) f j (cIx r k) = f (xIx (bt j) (rowOf j r) k) := by
  rw [← chRect_emb]; rfl
theorem rows_2 (f : S4x4096x1024.Idx → Elt F .f32) (j : Fin 32) (r : Fin 512) (k : Fin 1024) :
    rows c (Memref.whole main_v2) f j (cIx r k) = f (xIx (bt j) (rowOf j r) k) := by
  rw [← chRect_emb]; rfl

/-- A word staged is the id. -/
theorem word_staged (fi : Bf (F := F) main_arg1) (b : Fin 4) : wordAt c (Memref.whole cc1_stg0_0) (in1_0 fi c) b = fi c (idIx b) := by
  show fi c _ = fi c _
  refine congrArg (fi c) (funext fun a => Fin.ext ?_)
  match a with
  | ⟨0, _⟩ => show 0 * 4 + 1 * (b.val + 1 * 0) = b.val; omega

/-- A table staged is the table. -/
theorem gamma_staged (fg : Bf (F := F) main_arg2) (n : Fin 4) (k : Fin 1024) :
    tableAt c (Memref.whole cc1_stg1_0) (in1_1 fg c) (tIx n k) = fg c (tIx n k) := by
  show fg c _ = fg c _
  refine congrArg (fg c) (funext fun a => Fin.ext ?_)
  match a with
  | ⟨0, _⟩ => show 0 * 4 + 1 * (0 + 1 * n.val) = n.val; omega
  | ⟨1, _⟩ => show 0 * 1024 + 1 * (0 + 1 * k.val) = k.val; omega
theorem beta_staged (fb : Bf (F := F) main_arg3) (n : Fin 4) (k : Fin 1024) :
    tableAt c (Memref.whole cc1_stg2_0) (in1_2 fb c) (tIx n k) = fb c (tIx n k) := by
  show fb c _ = fb c _
  refine congrArg (fb c) (funext fun a => Fin.ext ?_)
  match a with
  | ⟨0, _⟩ => show 0 * 4 + 1 * (0 + 1 * n.val) = n.val; omega
  | ⟨1, _⟩ => show 0 * 1024 + 1 * (0 + 1 * k.val) = k.val; omega

/-- A row of a gathered table staged is the row. -/
theorem grow_staged (fg : Bf (F := F) main_v0_0) (n : Fin 4) (k : Fin 1024) :
    rowAt c (Memref.whole cc2_stg0_0) (in2_0 fg c) n (rIx k) = fg c (tIx n k) := by
  show fg c _ = fg c _
  refine congrArg (fg c) (funext fun a => Fin.ext ?_)
  match a with
  | ⟨0, _⟩ => show 0 * 4 + 1 * (n.val + 1 * 0) = n.val; omega
  | ⟨1, _⟩ => show 0 * 1024 + 1 * (0 + 1 * k.val) = k.val; omega
theorem brow_staged (fb : Bf (F := F) main_v0_1) (n : Fin 4) (k : Fin 1024) :
    rowAt c (Memref.whole cc2_stg1_0) (in2_1 fb c) n (rIx k) = fb c (tIx n k) := by
  show fb c _ = fb c _
  refine congrArg (fb c) (funext fun a => Fin.ext ?_)
  match a with
  | ⟨0, _⟩ => show 0 * 4 + 1 * (n.val + 1 * 0) = n.val; omega
  | ⟨1, _⟩ => show 0 * 1024 + 1 * (0 + 1 * k.val) = k.val; omega

end Any

/-! ## The result -/

/-- What `f` is to be: at every element, the row of `gam` that the batch's id names times `x`, plus the row of `bet`. -/
def IsFilm (ids : S4.Idx → BitVec 32) (gam bet : S4x1024.Idx → Elt Ideal .f32) (x f : S4x4096x1024.Idx → Elt Ideal .f32) : Prop :=
  ∀ (b n : Fin 4) (s : Fin 4096) (k : Fin 1024), (ids (idIx b)).toNat = n.val →
    f (xIx b s k) = FloatOps.addf (F := Ideal) (φ := .f32) (FloatOps.mulf (gam (tIx n k)) (x (xIx b s k))) (bet (tIx n k))

variable (m : (ℓ : Loc nD τ sig) → Buf (Elt Ideal) ℓ)

/-- What the kernel leaves of its result is just that. -/
theorem isFilm_of_out (d : Dev nD) (f : S4x4096x1024.Idx → Elt Ideal .f32) (h : Out m d f) :
    IsFilm (m (lc d main_arg1)) (m (lc d main_arg2)) (m (lc d main_arg3)) (m (lc d main_arg0)) f := by
  obtain ⟨tg, tb, f1, hg, hb, h1, h2⟩ := h
  intro b n s k hn
  -- the chunk and the row in it
  have hj : b.val * 8 + s.val / 512 < 32 := by have := b.isLt; have := s.isLt; omega
  obtain ⟨j, hjb⟩ : ∃ j : Fin 32, j.val = b.val * 8 + s.val / 512 := ⟨⟨_, hj⟩, rfl⟩
  obtain ⟨r, hr⟩ : ∃ r : Fin 512, r.val = s.val % 512 := ⟨⟨_, Nat.mod_lt _ (by decide)⟩, rfl⟩
  have hs := s.isLt
  have hb' : bt j = b := Fin.ext (show j.val / 8 = b.val by omega)
  have hs' : rowOf j r = s := Fin.ext (show 512 * (j.val % 8) + r.val = s.val by omega)
  have hx : xIx b s k = xIx (bt j) (rowOf j r) k := by rw [hb', hs']
  rw [hx, ← rows_2 d f j r k]
  by_cases hlo : j.val < 24
  · have e : lo ⟨j.val, hlo⟩ = j := Fin.ext rfl
    have hne : ∀ t, hi t ≠ j := fun t he => by have : 24 + t.val = j.val := congrArg Fin.val he; omega
    rw [h2.2 j hne]
    have h1' := h1.1 ⟨j.val, hlo⟩
    rw [e] at h1'
    refine (rows_2 d f1 j r k).trans ((rows_1 d f1 j r k).symm.trans ?_)
    have hw : BitVec.toNat (wordAt d (Memref.whole cc1_stg0_0) (in1_0 (at0 m main_arg1) d) (bt j)) = n.val :=
      (congrArg BitVec.toNat (word_staged d (at0 m main_arg1) (bt j))).trans (by rw [hb']; exact hn)
    refine (congrFun h1' (cIx r k)).trans ((affine_apply _ _ _ r k).trans ?_)
    exact congrArg₂ _ (congrArg₂ _ ((pick_apply _ _ n hw k).trans (gamma_staged d (at0 m main_arg2) n k)) (rows_x d (at0 m main_arg0 d) j r k))
      ((pick_apply _ _ n hw k).trans (beta_staged d (at0 m main_arg3) n k))
  · have hj' := j.isLt
    have e : hi ⟨j.val - 24, by omega⟩ = j := Fin.ext (show 24 + (j.val - 24) = j.val by omega)
    have h2' := h2.1 ⟨j.val - 24, by omega⟩
    rw [e] at h2'
    refine (congrFun h2' (cIx r k)).trans ((affine_apply _ _ _ r k).trans ?_)
    refine congrArg₂ _ (congrArg₂ _ ((flat_apply _ k).trans ((grow_staged d (fun _ => tg) (bt j) k).trans ?_)) (rows_x d (at0 m main_arg0 d) j r k))
      ((flat_apply _ k).trans ((brow_staged d (fun _ => tb) (bt j) k).trans ?_))
    · rw [hb']; exact hg b n k hn
    · rw [hb']; exact hb b n k hn

end Cert.Proof.Film

end
-- ==== Proof.Refer.lean ====
/-
  What the reference computes, element by element, where every id is below 4: the row of gamma that the batch's id names
  times `x`, plus the row of beta. Its indexing wraps a negative id and marks one out of range; neither happens here.
-/
module

public import proofs.«01_k».proof.Proof.Value
public import proofs.«01_k».proof.Proof.Gen.ReferenceIdeal.Run
public import Idealize.ShloMosaic.Lib.ReduceAll
public import Idealize.ShloMosaic.Lib.Routing.Ops

@[expose] public section

noncomputable section

namespace Cert.Proof.Film

open Cert.ReferenceIdeal Cert.ReferenceIdeal.Gen
open Idealize.ShloMosaic

instance referenceFacts : Cert.ReferenceIdeal.Facts := Cert.ReferenceIdeal.Gen.facts

variable {F : FTy → Type} [FloatOps F] (ids : IVec S4 32) (hid : ∀ i, (ids i).toNat < 4)

/-- The ids, a negative one counted from the end, as a column. -/
def column : IVec S4x1 32 :=
  broadcastInDim S4x1 ![0] bcast_S4_S4x1_0
    (select (cmpi .slt ids (broadcastInDim S4 ![] bcast_S_S4 (constantI S_ 32 0#32))) (addi ids (broadcastInDim S4 ![] bcast_S_S4 (constantI S_ 32 4#32))) ids)

/-- The bits that say which of them name a row. -/
def named : IVec S4 1 :=
  Host.reduce IntOp.andi (andi (cmpi .sge (column ids) (broadcastInDim S4x1 ![] bcast_S_S4x1 (constantI S_ 32 0#32)))
    (cmpi .sle (column ids) (broadcastInDim S4x1 ![0,1] bcast_S1x1_S4x1_0_1 (broadcastInDim S1x1 ![1] bcast_S1_S1x1_1 (constantI S1 32 3#32)))))
    (constantI S_ 1 1#1) reducesTo_S4x1_S4_d1 h_S_

/-- The rows of table `t` taken by the ids. -/
def taken (t : FVec F S4x1024 .f32) : FVec F S4x1024 .f32 :=
  select (broadcastInDim S4x1024 ![0] bcast_S4_S4x1024_0 (named ids))
    (Host.gather gather_S4x1024_S4x1_S4x1024_1_0_n_n_0_1_11024 t (column ids))
    (broadcastInDim S4x1024 ![] bcast_S_S4x1024 (constant S_ .f32 0x7FC00000#32))

/-- A word below 4 as a signed number. -/
theorem toInt_of_lt {w : BitVec 32} (h : w.toNat < 4) : w.toInt = w.toNat := by
  rw [BitVec.toInt_eq_toNat_cond, if_pos (by omega)]

include hid in
/-- No id is negative, so the column is the ids. -/
theorem column_apply (y : S4x1.Idx) : column ids y = ids (idIx (y 0)) := by
  have e : column ids y = Scalar.select (BitVec.ofBool ((ids (idIx (y 0))).slt 0#32)) (IntOp.addi (ids (idIx (y 0))) 4#32) (ids (idIx (y 0))) := by
    unfold column broadcastInDim
    refine (congrArg (select (cmpi .slt ids fun _ => 0#32) (addi ids fun _ => 4#32) ids) (?_ : _ = idIx (y 0))).trans rfl
    funext a
    match a with
    | ⟨0, _⟩ => rfl
  have hn : (ids (idIx (y 0))).slt 0#32 = false := by
    rw [Bool.eq_false_iff]
    intro h
    rw [BitVec.slt_iff_toInt_lt, toInt_of_lt (hid _), show (0#32 : BitVec 32).toInt = 0 from rfl] at h
    omega
  rw [e, hn]
  rfl

include hid in
/-- Every id names a row. -/
theorem named_apply (j : S4.Idx) : named ids j = 1#1 := by
  unfold named
  refine Host.reduce_andi_one _ _ _ _ j rfl fun i => ?_
  refine IntOp.andi_eq_one.2 ⟨?_, ?_⟩
  · show BitVec.ofBool ((0#32).sle (column ids i)) = 1#1
    rw [column_apply ids hid, show (0#32).sle (ids (idIx (i 0))) = true by
      rw [BitVec.sle_iff_toInt_le, toInt_of_lt (hid _), show (0#32 : BitVec 32).toInt = 0 from rfl]; omega]
    rfl
  · show BitVec.ofBool ((column ids i).sle 3#32) = 1#1
    have := hid (idIx (i 0))
    rw [column_apply ids hid, show (ids (idIx (i 0))).sle 3#32 = true by
      rw [BitVec.sle_iff_toInt_le, toInt_of_lt (hid _), show (3#32 : BitVec 32).toInt = 3 from rfl]; omega]
    rfl

include hid in
/-- The taken row is the row that the id names. -/
theorem taken_apply (t : FVec F S4x1024 .f32) (b n : Fin 4) (hn : (ids (idIx b)).toNat = n.val) (k : Fin 1024) :
    taken ids t (tIx b k) = t (tIx n k) := by
  have hg : Host.gather gather_S4x1024_S4x1_S4x1024_1_0_n_n_0_1_11024 t (column ids) (tIx b k) = t (tIx n k) := by
    have h := Routing.gather_row gather_S4x1024_S4x1_S4x1024_1_0_n_n_0_1_11024 rfl rfl rfl rfl rfl t (column ids) b k n
      ((column_apply ids hid _).trans (BitVec.eq_of_toNat_eq (by
        rw [BitVec.toNat_ofNat]; exact hn.trans (by have := n.isLt; omega)))) (by decide)
    have e : ∀ i : Fin 4, (tIx i k : S4x1024.Idx) = ValueIdx.ix2 i k := fun i => by
      funext a
      match a with
      | ⟨0, _⟩ => rfl
      | ⟨1, _⟩ => rfl
    rw [e, e]
    exact h
  unfold taken
  show Scalar.select (named ids _) (Host.gather gather_S4x1024_S4x1_S4x1024_1_0_n_n_0_1_11024 t (column ids) (tIx b k)) _ = _
  rw [named_apply ids hid, hg]
  rfl

/-- What the reference makes of its arguments. -/
def made (x : FVec F S4x4096x1024 .f32) (gam bet : FVec F S4x1024 .f32) : FVec F S4x4096x1024 .f32 :=
  addf (mulf (broadcastInDim S4x4096x1024 ![0,1,2] bcast_S4x1x1024_S4x4096x1024_0_1_2 (broadcastInDim S4x1x1024 ![0,2] bcast_S4x1024_S4x1x1024_0_2 (taken ids gam))) x)
    (broadcastInDim S4x4096x1024 ![0,1,2] bcast_S4x1x1024_S4x4096x1024_0_1_2 (broadcastInDim S4x1x1024 ![0,2] bcast_S4x1024_S4x1x1024_0_2 (taken ids bet)))

/-- A table laid over the sequence. -/
theorem over_apply (t : FVec F S4x1024 .f32) (b : Fin 4) (s : Fin 4096) (k : Fin 1024) :
    broadcastInDim S4x4096x1024 ![0,1,2] bcast_S4x1x1024_S4x4096x1024_0_1_2 (broadcastInDim S4x1x1024 ![0,2] bcast_S4x1024_S4x1x1024_0_2 t) (xIx b s k)
      = t (tIx b k) := by
  unfold broadcastInDim
  refine congrArg t (funext fun a => ?_)
  match a with
  | ⟨0, _⟩ => rfl
  | ⟨1, _⟩ => rfl

/-- The reference's result is the row of gamma times `x` plus the row of beta. -/
theorem isFilm_made (ids : IVec S4 32) (hid : ∀ i, (ids i).toNat < 4) (x : FVec Ideal S4x4096x1024 .f32) (gam bet : FVec Ideal S4x1024 .f32) :
    IsFilm ids gam bet x (made ids x gam bet) := by
  intro b n s k hn
  refine congrArg₂ _ (congrArg₂ _ ((over_apply _ b s k).trans (taken_apply ids hid gam b n hn k)) rfl) ((over_apply _ b s k).trans (taken_apply ids hid bet b n hn k))

/-- Only one array is that. -/
theorem isFilm_unique (ids : IVec S4 32) (hid : ∀ i, (ids i).toNat < 4) (x f f' : FVec Ideal S4x4096x1024 .f32) (gam bet : FVec Ideal S4x1024 .f32)
    (h : IsFilm ids gam bet x f) (h' : IsFilm ids gam bet x f') : f = f' := by
  funext i
  have e : i = xIx (i 0) (i 1) (i 2) := by
    funext a
    match a with
    | ⟨0, _⟩ => rfl
    | ⟨1, _⟩ => rfl
    | ⟨2, _⟩ => rfl
  rw [e]
  exact (h _ ⟨_, hid (idIx (i 0))⟩ _ _ rfl).trans (h' _ ⟨_, hid (idIx (i 0))⟩ _ _ rfl).symm

end Cert.Proof.Film

end
-- ==== Proof.lean ====
/- The claims about FiLM with gathered rows: the frames of the kernel as printed, of the idealized kernel and of the
   reference, and the equality of the last two's results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Range
public import proofs.«01_k».proof.Proof.Same
public import proofs.«01_k».proof.Proof.Refer
public import proofs.«01_k».proof.Proof.Gen.Pre_in_range
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_in_range.Facts := Cert.Pre_in_range.Gen.facts

/-- The kernel as printed runs and keeps its arguments. -/
theorem frame_kernel : Cert.quiescent_Kernel := fun m ρ hm =>
  Film.run_same ((θ_run (Cert.KernelIdeal.defs (F := Bits)) Cert.KernelIdeal.threads _).mono
    (fun _ h => ⟨fun c => ⟨(h.1 c).1, (h.1 c).2.1, (h.1 c).2.2.1, (h.1 c).2.2.2.1⟩, h.2⟩)
    (Film.run_main (F := Bits) m ρ fun d i => Film.ids_lt (F := Bits) _ _ _ _ (hm d) (Film.idIx i)))

/-- The kernel over the extended reals runs and keeps its arguments. -/
theorem frame_ideal : Cert.quiescent_KernelIdeal := fun m ρ hm =>
  (θ_run Cert.KernelIdeal.defs _ _).mono (fun _ h => ⟨fun c => ⟨(h.1 c).1, (h.1 c).2.1, (h.1 c).2.2.1, (h.1 c).2.2.2.1⟩, h.2⟩)
    (Film.run_main (F := Ideal) m ρ fun d i => Film.ids_lt _ _ _ _ (hm d) (Film.idIx i))

/-- The reference runs and keeps its arguments. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- So it does where every id is in range. -/
theorem frame_reference_in_range : Cert.quiescent_ReferenceIdeal_pre_in_range := fun m ρ _ => frame_reference m ρ trivial

/-- From memories that agree on the arguments the kernel and the reference, over the extended reals, end with the same
    result: the row of gamma that the batch's id names times `x`, plus the row of beta. -/
theorem algebraic : Cert.algebraic_KernelIdeal_ReferenceIdeal := by
  intro m g m' g' hm hargs
  have hid : ∀ c i, ((m (Film.lc c Cert.KernelIdeal.main_arg1)) i).toNat < 4 := fun c i => Film.ids_lt _ _ _ _ (hm c) i
  refine ⟨fun c => Film.made (F := Ideal) (m (Film.lc c Cert.KernelIdeal.main_arg1)) (m (Film.lc c Cert.KernelIdeal.main_arg0))
      (m (Film.lc c Cert.KernelIdeal.main_arg2)) (m (Film.lc c Cert.KernelIdeal.main_arg3)),
    (θ_run Cert.KernelIdeal.defs _ _).mono (fun r h c => ?_) (Film.run_main (F := Ideal) m g fun d i => hid d (Film.idIx i)),
    (θ_run Cert.ReferenceIdeal.defs _ _).mono (fun r h c => ⟨?_, (h c).2⟩) (Cert.ReferenceIdeal.Value.run (F := Ideal) m' g')⟩
  · obtain ⟨h0, h1, h2, h3, hout⟩ := h.1 c
    exact ⟨Film.isFilm_unique _ (hid c) _ _ _ _ _ (Film.isFilm_of_out m c _ hout) (Film.isFilm_made _ (hid c) _ _ _), h0, h1, h2, h3⟩
  · obtain ⟨e0, e1, e2, e3⟩ := hargs c
    refine (h c).1.trans ?_
    rw [e0, e1, e2, e3]
    rfl

theorem claim : Cert.Claim := ⟨Cert.Kernel.Gen.facts, Cert.KernelIdeal.Gen.facts, Cert.ReferenceIdeal.Gen.facts, Cert.Pre_in_range.Gen.facts,
  frame_kernel, frame_ideal, frame_reference, frame_reference_in_range, trivial, algebraic⟩

end Cert.Proof

end
